-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v123)) (v1 : (c : Dev Cert.KernelIdeal.nD) → Buf (Elt Ideal) ((c.tc : Thread Cert.KernelIdeal.nD Cert.KernelIdeal.τ).loc Cert.KernelIdeal.main_v124)) (v2 : (c : Dev Cert.KernelIdeal.nD) → Buf (Elt Ideal) ((c.tc : Thread Cert.KernelIdeal.nD Cert.KernelIdeal.τ).loc Cert.KernelIdeal.main_v109)) (v3 : (c : Dev Cert.KernelIdeal.nD) → Buf (Elt Ideal) ((c.tc : Thread Cert.KernelIdeal.nD Cert.KernelIdeal.τ).loc Cert.KernelIdeal.main_v125)) (v4 : (c : Dev Cert.KernelIdeal.nD) → Buf (Elt Ideal) ((c.tc : Thread Cert.KernelIdeal.nD Cert.KernelIdeal.τ).loc Cert.KernelIdeal.main_v25)) (v5 : (c : Dev Cert.KernelIdeal.nD) → Buf (Elt Ideal) ((c.tc : Thread Cert.KernelIdeal.nD Cert.KernelIdeal.τ).loc Cert.KernelIdeal.main_v97_0)) (v6 : (c : Dev Cert.KernelIdeal.nD) → Buf (Elt Ideal) ((c.tc : Thread Cert.KernelIdeal.nD Cert.KernelIdeal.τ).loc Cert.KernelIdeal.main_v56)) (v7 : (c : Dev Cert.KernelIdeal.nD) → Buf (Elt Ideal) ((c.tc : Thread Cert.KernelIdeal.nD Cert.KernelIdeal.τ).loc Cert.KernelIdeal.main_v126)) (v8 : (c : Dev Cert.KernelIdeal.nD) → Buf (Elt Ideal) ((c.tc : Thread Cert.KernelIdeal.nD Cert.KernelIdeal.τ).loc Cert.KernelIdeal.main_v87)) (v9 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_v124) = v1 c
          ∧ r.2.mem ((c.tc : Thread Cert.KernelIdeal.nD Cert.KernelIdeal.τ).loc Cert.KernelIdeal.main_v109) = v2 c
          ∧ r.2.mem ((c.tc : Thread Cert.KernelIdeal.nD Cert.KernelIdeal.τ).loc Cert.KernelIdeal.main_v125) = v3 c
          ∧ r.2.mem ((c.tc : Thread Cert.KernelIdeal.nD Cert.KernelIdeal.τ).loc Cert.KernelIdeal.main_v25) = v4 c
          ∧ r.2.mem ((c.tc : Thread Cert.KernelIdeal.nD Cert.KernelIdeal.τ).loc Cert.KernelIdeal.main_v97_0) = v5 c
          ∧ r.2.mem ((c.tc : Thread Cert.KernelIdeal.nD Cert.KernelIdeal.τ).loc Cert.KernelIdeal.main_v56) = v6 c
          ∧ r.2.mem ((c.tc : Thread Cert.KernelIdeal.nD Cert.KernelIdeal.τ).loc Cert.KernelIdeal.main_v126) = v7 c
          ∧ r.2.mem ((c.tc : Thread Cert.KernelIdeal.nD Cert.KernelIdeal.τ).loc Cert.KernelIdeal.main_v87) = v8 c
          ∧ r.2.mem ((c.tc : Thread Cert.KernelIdeal.nD Cert.KernelIdeal.τ).loc Cert.KernelIdeal.main_v122) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_v182) = v1 c
          ∧ r.2.mem ((c.tc : Thread Cert.ReferenceIdeal.nD Cert.ReferenceIdeal.τ).loc Cert.ReferenceIdeal.main_v161_2) = v2 c
          ∧ r.2.mem ((c.tc : Thread Cert.ReferenceIdeal.nD Cert.ReferenceIdeal.τ).loc Cert.ReferenceIdeal.main_v183) = v3 c
          ∧ r.2.mem ((c.tc : Thread Cert.ReferenceIdeal.nD Cert.ReferenceIdeal.τ).loc Cert.ReferenceIdeal.main_v43) = v4 c
          ∧ r.2.mem ((c.tc : Thread Cert.ReferenceIdeal.nD Cert.ReferenceIdeal.τ).loc Cert.ReferenceIdeal.main_v161_4) = v5 c
          ∧ r.2.mem ((c.tc : Thread Cert.ReferenceIdeal.nD Cert.ReferenceIdeal.τ).loc Cert.ReferenceIdeal.main_v94) = v6 c
          ∧ r.2.mem ((c.tc : Thread Cert.ReferenceIdeal.nD Cert.ReferenceIdeal.τ).loc Cert.ReferenceIdeal.main_v184) = v7 c
          ∧ r.2.mem ((c.tc : Thread Cert.ReferenceIdeal.nD Cert.ReferenceIdeal.τ).loc Cert.ReferenceIdeal.main_v145) = v8 c
          ∧ r.2.mem ((c.tc : Thread Cert.ReferenceIdeal.nD Cert.ReferenceIdeal.τ).loc Cert.ReferenceIdeal.main_v180) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x2048x15488 : Shape := ⟨3, ![3, 2048, 15488]⟩
abbrev S15488x7424 : Shape := ⟨2, ![15488, 7424]⟩
abbrev S3x2048x7424 : Shape := ⟨3, ![3, 2048, 7424]⟩
abbrev S3x16 : Shape := ⟨2, ![3, 16]⟩
abbrev S_ : Shape := ⟨0, ![]⟩
abbrev S1x16 : Shape := ⟨2, ![1, 16]⟩
abbrev S16 : Shape := ⟨1, ![16]⟩
abbrev S255 : Shape := ⟨1, ![255]⟩
abbrev S6144x15488 : Shape := ⟨2, ![6144, 15488]⟩
abbrev S1 : Shape := ⟨1, ![1]⟩
abbrev S16x128 : Shape := ⟨2, ![16, 128]⟩
abbrev S256x15488 : Shape := ⟨2, ![256, 15488]⟩
abbrev S32x128 : Shape := ⟨2, ![32, 128]⟩
abbrev S352x7424 : Shape := ⟨2, ![352, 7424]⟩
abbrev S6144x7424 : Shape := ⟨2, ![6144, 7424]⟩
abbrev S512x7424 : Shape := ⟨2, ![512, 7424]⟩
abbrev S1024x15488 : Shape := ⟨2, ![1024, 15488]⟩
abbrev S15488x256 : Shape := ⟨2, ![15488, 256]⟩
abbrev S1024x256 : Shape := ⟨2, ![1024, 256]⟩
abbrev S1024x7424 : Shape := ⟨2, ![1024, 7424]⟩
abbrev S1408x7424 : Shape := ⟨2, ![1408, 7424]⟩
abbrev S1024x1408 : Shape := ⟨2, ![1024, 1408]⟩
abbrev S6144x1408 : Shape := ⟨2, ![6144, 1408]⟩
abbrev S6144x256 : Shape := ⟨2, ![6144, 256]⟩
abbrev S1408x256 : Shape := ⟨2, ![1408, 256]⟩
abbrev S3 : Shape := ⟨1, ![3]⟩

abbrev nBuf : Space → Nat
  | .hbm => 237
  | .vmem => 33
  | .smem => 6
  | _ => 0

abbrev hbmTy0_0 (i : Nat) : BufTy := match i % 128 with
  | 0 => ⟨S3x2048x15488, .bf16⟩
  | 1 => ⟨S15488x7424, .bf16⟩
  | 2 => ⟨S3x2048x7424, .bf16⟩
  | 3 => ⟨S3x16, .f32⟩
  | 4 => ⟨S_, .i32⟩
  | 5 => ⟨S1x16, .f32⟩
  | 6 => ⟨S16, .f32⟩
  | 7 => ⟨S_, .f32⟩
  | 8 => ⟨S_, .f32⟩
  | 9 => ⟨S_, .f32⟩
  | 10 => ⟨S_, .f32⟩
  | 11 => ⟨S255, .i32⟩
  | 12 => ⟨S_, .i32⟩
  | 13 => ⟨S255, .i32⟩
  | 14 => ⟨S255, .i32⟩
  | 15 => ⟨S_, .i32⟩
  | 16 => ⟨S255, .i32⟩
  | 17 => ⟨S255, .i32⟩
  | 18 => ⟨S255, .f32⟩
  | 19 => ⟨S_, .f32⟩
  | 20 => ⟨S255, .f32⟩
  | 21 => ⟨S255, .i1⟩
  | 22 => ⟨S255, .i32⟩
  | 23 => ⟨S_, .i32⟩
  | 24 => ⟨S_, .i32⟩
  | 25 => ⟨S_, .i32⟩
  | 26 => ⟨S_, .i1⟩
  | 27 => ⟨S_, .i32⟩
  | 28 => ⟨S_, .i1⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .f32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .f32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .f32⟩
  | 63 => ⟨S1x16, .f32⟩
  | 64 => ⟨S16, .f32⟩
  | 65 => ⟨S_, .f32⟩
  | 66 => ⟨S_, .f32⟩
  | 67 => ⟨S_, .f32⟩
  | 68 => ⟨S_, .f32⟩
  | 69 => ⟨S255, .i32⟩
  | 70 => ⟨S_, .i32⟩
  | 71 => ⟨S255, .i32⟩
  | 72 => ⟨S255, .i32⟩
  | 73 => ⟨S_, .i32⟩
  | 74 => ⟨S255, .i32⟩
  | 75 => ⟨S255, .i32⟩
  | 76 => ⟨S255, .f32⟩
  | 77 => ⟨S_, .f32⟩
  | 78 => ⟨S255, .f32⟩
  | 79 => ⟨S255, .i1⟩
  | 80 => ⟨S255, .i32⟩
  | 81 => ⟨S_, .i32⟩
  | 82 => ⟨S_, .i32⟩
  | 83 => ⟨S_, .i32⟩
  | 84 => ⟨S_, .i1⟩
  | 85 => ⟨S_, .i32⟩
  | 86 => ⟨S_, .i1⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S_, .f32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .f32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .f32⟩
  | 121 => ⟨S1x16, .f32⟩
  | 122 => ⟨S16, .f32⟩
  | 123 => ⟨S_, .f32⟩
  | 124 => ⟨S_, .f32⟩
  | 125 => ⟨S_, .f32⟩
  | 126 => ⟨S_, .f32⟩
  | 127 => ⟨S255, .i32⟩
  | _ => ⟨S3x2048x15488, .bf16⟩

abbrev hbmTy0_1 (i : Nat) : BufTy := match i % 128 with
  | 0 => ⟨S_, .i32⟩
  | 1 => ⟨S255, .i32⟩
  | 2 => ⟨S255, .i32⟩
  | 3 => ⟨S_, .i32⟩
  | 4 => ⟨S255, .i32⟩
  | 5 => ⟨S255, .i32⟩
  | 6 => ⟨S255, .f32⟩
  | 7 => ⟨S_, .f32⟩
  | 8 => ⟨S255, .f32⟩
  | 9 => ⟨S255, .i1⟩
  | 10 => ⟨S255, .i32⟩
  | 11 => ⟨S_, .i32⟩
  | 12 => ⟨S_, .i32⟩
  | 13 => ⟨S_, .i32⟩
  | 14 => ⟨S_, .i1⟩
  | 15 => ⟨S_, .i32⟩
  | 16 => ⟨S_, .i1⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S_, .f32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .f32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .f32⟩
  | 51 => ⟨S6144x15488, .bf16⟩
  | 52 => ⟨S1, .f32⟩
  | 53 => ⟨S6144x15488, .fp8e4m3⟩
  | 54 => ⟨S16x128, .f32⟩
  | 55 => ⟨S1, .f32⟩
  | 56 => ⟨S15488x7424, .fp8e4m3⟩
  | 57 => ⟨S16x128, .f32⟩
  | 58 => ⟨S6144x7424, .bf16⟩
  | 59 => ⟨S1, .f32⟩
  | 60 => ⟨S6144x7424, .fp8e5m2⟩
  | 61 => ⟨S16x128, .f32⟩
  | 62 => ⟨S_, .f32⟩
  | 63 => ⟨S1, .f32⟩
  | 64 => ⟨S6144x7424, .bf16⟩
  | 65 => ⟨S_, .f32⟩
  | 66 => ⟨S1, .f32⟩
  | 67 => ⟨S6144x15488, .bf16⟩
  | 68 => ⟨S_, .f32⟩
  | 69 => ⟨S1, .f32⟩
  | 70 => ⟨S15488x7424, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S1, .f32⟩
  | 78 => ⟨S1, .f32⟩
  | 79 => ⟨S1, .f32⟩
  | 80 => ⟨S3, .f32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i1⟩
  | 90 => ⟨S_, .i32⟩
  | 91 => ⟨S_, .i1⟩
  | 92 => ⟨S_, .i32⟩
  | 93 => ⟨S_, .i1⟩
  | 94 => ⟨S_, .i1⟩
  | 95 => ⟨S_, .i1⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S1, .i32⟩
  | 104 => ⟨S3x16, .f32⟩
  | 105 => ⟨S3x2048x7424, .bf16⟩
  | 106 => ⟨S3x2048x15488, .bf16⟩
  | 107 => ⟨S3x2048x15488, .fp8e4m3⟩
  | 108 => ⟨S3x2048x7424, .fp8e5m2⟩
  | _ => ⟨S3x2048x15488, .bf16⟩

abbrev hbmTy (i : Nat) : BufTy := match i / 128 with
  | 0 => hbmTy0_0 i
  | 1 => hbmTy0_1 i
  | _ => ⟨S3x2048x15488, .bf16⟩

abbrev bufTy : (tb : Table) → Fin (tcTables nBuf tb) → BufTy
  | .hbm, ⟨i, _⟩ => hbmTy i
  | .local _ .vmem, ⟨0, _⟩ => ⟨S256x15488, .bf16⟩
  | .local _ .vmem, ⟨1, _⟩ => ⟨S256x15488, .bf16⟩
  | .local _ .vmem, ⟨2, _⟩ => ⟨S256x15488, .fp8e4m3⟩
  | .local _ .vmem, ⟨3, _⟩ => ⟨S256x15488, .fp8e4m3⟩
  | .local _ .vmem, ⟨4, _⟩ => ⟨S16x128, .f32⟩
  | .local _ .vmem, ⟨5, _⟩ => ⟨S352x7424, .bf16⟩
  | .local _ .vmem, ⟨6, _⟩ => ⟨S352x7424, .bf16⟩
  | .local _ .vmem, ⟨7, _⟩ => ⟨S352x7424, .fp8e4m3⟩
  | .local _ .vmem, ⟨8, _⟩ => ⟨S352x7424, .fp8e4m3⟩
  | .local _ .vmem, ⟨9, _⟩ => ⟨S16x128, .f32⟩
  | .local _ .vmem, ⟨10, _⟩ => ⟨S512x7424, .bf16⟩
  | .local _ .vmem, ⟨11, _⟩ => ⟨S512x7424, .bf16⟩
  | .local _ .vmem, ⟨12, _⟩ => ⟨S512x7424, .fp8e5m2⟩
  | .local _ .vmem, ⟨13, _⟩ => ⟨S512x7424, .fp8e5m2⟩
  | .local _ .vmem, ⟨14, _⟩ => ⟨S16x128, .f32⟩
  | .local _ .vmem, ⟨15, _⟩ => ⟨S1024x15488, .fp8e4m3⟩
  | .local _ .vmem, ⟨16, _⟩ => ⟨S1024x15488, .fp8e4m3⟩
  | .local _ .vmem, ⟨17, _⟩ => ⟨S15488x256, .fp8e4m3⟩
  | .local _ .vmem, ⟨18, _⟩ => ⟨S15488x256, .fp8e4m3⟩
  | .local _ .vmem, ⟨19, _⟩ => ⟨S1024x256, .bf16⟩
  | .local _ .vmem, ⟨20, _⟩ => ⟨S1024x256, .bf16⟩
  | .local _ .vmem, ⟨21, _⟩ => ⟨S1024x7424, .fp8e5m2⟩
  | .local _ .vmem, ⟨22, _⟩ => ⟨S1024x7424, .fp8e5m2⟩
  | .local _ .vmem, ⟨23, _⟩ => ⟨S1408x7424, .fp8e4m3⟩
  | .local _ .vmem, ⟨24, _⟩ => ⟨S1408x7424, .fp8e4m3⟩
  | .local _ .vmem, ⟨25, _⟩ => ⟨S1024x1408, .bf16⟩
  | .local _ .vmem, ⟨26, _⟩ => ⟨S1024x1408, .bf16⟩
  | .local _ .vmem, ⟨27, _⟩ => ⟨S6144x1408, .fp8e4m3⟩
  | .local _ .vmem, ⟨28, _⟩ => ⟨S6144x1408, .fp8e4m3⟩
  | .local _ .vmem, ⟨29, _⟩ => ⟨S6144x256, .fp8e5m2⟩
  | .local _ .vmem, ⟨30, _⟩ => ⟨S6144x256, .fp8e5m2⟩
  | .local _ .vmem, ⟨31, _⟩ => ⟨S1408x256, .f32⟩
  | .local _ .vmem, ⟨32, _⟩ => ⟨S1408x256, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | .local _ .smem, ⟨5, _⟩ => ⟨S1, .f32⟩
  | _, _ => ⟨S3x2048x15488, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_c_5 : Ref sig .tc := ⟨.hbm, 30, rfl⟩
abbrev main_v18 : Ref sig .tc := ⟨.hbm, 31, rfl⟩
abbrev main_c_6 : Ref sig .tc := ⟨.hbm, 32, rfl⟩
abbrev main_call0_v0 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_c_8 : Ref sig .tc := ⟨.hbm, 37, rfl⟩
abbrev main_call1_v0 : Ref sig .tc := ⟨.hbm, 38, rfl⟩
abbrev main_v21 : Ref sig .tc := ⟨.hbm, 39, rfl⟩
abbrev main_c_9 : Ref sig .tc := ⟨.hbm, 40, rfl⟩
abbrev main_c_10 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v22 : Ref sig .tc := ⟨.hbm, 45, rfl⟩
abbrev main_c_11 : Ref sig .tc := ⟨.hbm, 46, rfl⟩
abbrev main_v23 : Ref sig .tc := ⟨.hbm, 47, rfl⟩
abbrev main_c_12 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_13 : Ref sig .tc := ⟨.hbm, 52, rfl⟩
abbrev main_c_14 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_v27 : Ref sig .tc := ⟨.hbm, 57, rfl⟩
abbrev main_c_15 : Ref sig .tc := ⟨.hbm, 58, rfl⟩
abbrev main_v28 : Ref sig .tc := ⟨.hbm, 59, rfl⟩
abbrev main_c_16 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_17 : Ref sig .tc := ⟨.hbm, 65, rfl⟩
abbrev main_v33 : Ref sig .tc := ⟨.hbm, 66, rfl⟩
abbrev main_cst_18 : Ref sig .tc := ⟨.hbm, 67, rfl⟩
abbrev main_v34 : Ref sig .tc := ⟨.hbm, 68, rfl⟩
abbrev main_v35 : Ref sig .tc := ⟨.hbm, 69, rfl⟩
abbrev main_c_19 : Ref sig .tc := ⟨.hbm, 70, rfl⟩
abbrev main_v36 : Ref sig .tc := ⟨.hbm, 71, rfl⟩
abbrev main_v37 : Ref sig .tc := ⟨.hbm, 72, rfl⟩
abbrev main_c_20 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_c_21 : Ref sig .tc := ⟨.hbm, 81, rfl⟩
abbrev main_v45 : Ref sig .tc := ⟨.hbm, 82, rfl⟩
abbrev main_c_22 : Ref sig .tc := ⟨.hbm, 83, rfl⟩
abbrev main_v46 : Ref sig .tc := ⟨.hbm, 84, rfl⟩
abbrev main_c_23 : Ref sig .tc := ⟨.hbm, 85, rfl⟩
abbrev main_v47 : Ref sig .tc := ⟨.hbm, 86, rfl⟩
abbrev main_v48 : Ref sig .tc := ⟨.hbm, 87, rfl⟩
abbrev main_c_24 : Ref sig .tc := ⟨.hbm, 88, rfl⟩
abbrev main_v49 : Ref sig .tc := ⟨.hbm, 89, rfl⟩
abbrev main_c_25 : Ref sig .tc := ⟨.hbm, 90, rfl⟩
abbrev main_call4_v0 : Ref sig .tc := ⟨.hbm, 91, rfl⟩
abbrev main_v50 : Ref sig .tc := ⟨.hbm, 92, rfl⟩
abbrev main_cst_26 : Ref sig .tc := ⟨.hbm, 93, rfl⟩
abbrev main_v51 : Ref sig .tc := ⟨.hbm, 94, rfl⟩
abbrev main_c_27 : Ref sig .tc := ⟨.hbm, 95, rfl⟩
abbrev main_call5_v0 : Ref sig .tc := ⟨.hbm, 96, rfl⟩
abbrev main_v52 : Ref sig .tc := ⟨.hbm, 97, rfl⟩
abbrev main_c_28 : Ref sig .tc := ⟨.hbm, 98, rfl⟩
abbrev main_c_29 : Ref sig .tc := ⟨.hbm, 99, rfl⟩
abbrev main_call6_v0 : Ref sig .tc := ⟨.hbm, 100, rfl⟩
abbrev main_call6_v1 : Ref sig .tc := ⟨.hbm, 101, rfl⟩
abbrev main_call6_v2 : Ref sig .tc := ⟨.hbm, 102, rfl⟩
abbrev main_v53 : Ref sig .tc := ⟨.hbm, 103, rfl⟩
abbrev main_c_30 : Ref sig .tc := ⟨.hbm, 104, rfl⟩
abbrev main_v54 : Ref sig .tc := ⟨.hbm, 105, rfl⟩
abbrev main_c_31 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_c_32 : Ref sig .tc := ⟨.hbm, 110, rfl⟩
abbrev main_c_33 : Ref sig .tc := ⟨.hbm, 111, rfl⟩
abbrev main_call7_v0 : Ref sig .tc := ⟨.hbm, 112, rfl⟩
abbrev main_call7_v1 : Ref sig .tc := ⟨.hbm, 113, rfl⟩
abbrev main_call7_v2 : Ref sig .tc := ⟨.hbm, 114, rfl⟩
abbrev main_v58 : Ref sig .tc := ⟨.hbm, 115, rfl⟩
abbrev main_c_34 : Ref sig .tc := ⟨.hbm, 116, rfl⟩
abbrev main_v59 : Ref sig .tc := ⟨.hbm, 117, rfl⟩
abbrev main_c_35 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_cst_36 : Ref sig .tc := ⟨.hbm, 123, rfl⟩
abbrev main_v64 : Ref sig .tc := ⟨.hbm, 124, rfl⟩
abbrev main_cst_37 : Ref sig .tc := ⟨.hbm, 125, rfl⟩
abbrev main_v65 : Ref sig .tc := ⟨.hbm, 126, rfl⟩
abbrev main_v66 : Ref sig .tc := ⟨.hbm, 127, rfl⟩
abbrev main_c_38 : Ref sig .tc := ⟨.hbm, 128, rfl⟩
abbrev main_v67 : Ref sig .tc := ⟨.hbm, 129, rfl⟩
abbrev main_v68 : Ref sig .tc := ⟨.hbm, 130, rfl⟩
abbrev main_c_39 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_c_40 : Ref sig .tc := ⟨.hbm, 139, rfl⟩
abbrev main_v76 : Ref sig .tc := ⟨.hbm, 140, rfl⟩
abbrev main_c_41 : Ref sig .tc := ⟨.hbm, 141, rfl⟩
abbrev main_v77 : Ref sig .tc := ⟨.hbm, 142, rfl⟩
abbrev main_c_42 : Ref sig .tc := ⟨.hbm, 143, rfl⟩
abbrev main_v78 : Ref sig .tc := ⟨.hbm, 144, rfl⟩
abbrev main_v79 : Ref sig .tc := ⟨.hbm, 145, rfl⟩
abbrev main_c_43 : Ref sig .tc := ⟨.hbm, 146, rfl⟩
abbrev main_v80 : Ref sig .tc := ⟨.hbm, 147, rfl⟩
abbrev main_c_44 : Ref sig .tc := ⟨.hbm, 148, rfl⟩
abbrev main_call8_v0 : Ref sig .tc := ⟨.hbm, 149, rfl⟩
abbrev main_v81 : Ref sig .tc := ⟨.hbm, 150, rfl⟩
abbrev main_cst_45 : Ref sig .tc := ⟨.hbm, 151, rfl⟩
abbrev main_v82 : Ref sig .tc := ⟨.hbm, 152, rfl⟩
abbrev main_c_46 : Ref sig .tc := ⟨.hbm, 153, rfl⟩
abbrev main_call9_v0 : Ref sig .tc := ⟨.hbm, 154, rfl⟩
abbrev main_v83 : Ref sig .tc := ⟨.hbm, 155, rfl⟩
abbrev main_c_47 : Ref sig .tc := ⟨.hbm, 156, rfl⟩
abbrev main_c_48 : Ref sig .tc := ⟨.hbm, 157, rfl⟩
abbrev main_call10_v0 : Ref sig .tc := ⟨.hbm, 158, rfl⟩
abbrev main_call10_v1 : Ref sig .tc := ⟨.hbm, 159, rfl⟩
abbrev main_call10_v2 : Ref sig .tc := ⟨.hbm, 160, rfl⟩
abbrev main_v84 : Ref sig .tc := ⟨.hbm, 161, rfl⟩
abbrev main_c_49 : Ref sig .tc := ⟨.hbm, 162, rfl⟩
abbrev main_v85 : Ref sig .tc := ⟨.hbm, 163, rfl⟩
abbrev main_c_50 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_c_51 : Ref sig .tc := ⟨.hbm, 168, rfl⟩
abbrev main_c_52 : Ref sig .tc := ⟨.hbm, 169, rfl⟩
abbrev main_call11_v0 : Ref sig .tc := ⟨.hbm, 170, rfl⟩
abbrev main_call11_v1 : Ref sig .tc := ⟨.hbm, 171, rfl⟩
abbrev main_call11_v2 : Ref sig .tc := ⟨.hbm, 172, rfl⟩
abbrev main_v89 : Ref sig .tc := ⟨.hbm, 173, rfl⟩
abbrev main_c_53 : Ref sig .tc := ⟨.hbm, 174, rfl⟩
abbrev main_v90 : Ref sig .tc := ⟨.hbm, 175, rfl⟩
abbrev main_c_54 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95_0 : Ref sig .tc := ⟨.hbm, 181, rfl⟩
abbrev main_v95_1 : Ref sig .tc := ⟨.hbm, 182, rfl⟩
abbrev main_v96 : Ref sig .tc := ⟨.hbm, 183, rfl⟩
abbrev main_v97_0 : Ref sig .tc := ⟨.hbm, 184, rfl⟩
abbrev main_v97_1 : Ref sig .tc := ⟨.hbm, 185, rfl⟩
abbrev main_v98 : Ref sig .tc := ⟨.hbm, 186, rfl⟩
abbrev main_v99 : Ref sig .tc := ⟨.hbm, 187, rfl⟩
abbrev main_v100_0 : Ref sig .tc := ⟨.hbm, 188, rfl⟩
abbrev main_v100_1 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_cst_55 : Ref sig .tc := ⟨.hbm, 199, rfl⟩
abbrev main_v110 : Ref sig .tc := ⟨.hbm, 200, rfl⟩
abbrev main_cst_56 : Ref sig .tc := ⟨.hbm, 201, rfl⟩
abbrev main_v111 : Ref sig .tc := ⟨.hbm, 202, rfl⟩
abbrev main_cst_57 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_c_58 : Ref sig .tc := ⟨.hbm, 209, rfl⟩
abbrev main_call12_v0 : Ref sig .tc := ⟨.hbm, 210, rfl⟩
abbrev main_call12_c : Ref sig .tc := ⟨.hbm, 211, rfl⟩
abbrev main_call12_v1 : Ref sig .tc := ⟨.hbm, 212, rfl⟩
abbrev main_call12_c_0 : Ref sig .tc := ⟨.hbm, 213, rfl⟩
abbrev main_call12_v2 : Ref sig .tc := ⟨.hbm, 214, rfl⟩
abbrev main_call12_v3 : Ref sig .tc := ⟨.hbm, 215, rfl⟩
abbrev main_call12_c_1 : Ref sig .tc := ⟨.hbm, 216, rfl⟩
abbrev main_call12_v4 : Ref sig .tc := ⟨.hbm, 217, rfl⟩
abbrev main_call12_c_2 : Ref sig .tc := ⟨.hbm, 218, rfl⟩
abbrev main_call12_v5 : Ref sig .tc := ⟨.hbm, 219, rfl⟩
abbrev main_call12_c_3 : Ref sig .tc := ⟨.hbm, 220, rfl⟩
abbrev main_call12_v6 : Ref sig .tc := ⟨.hbm, 221, rfl⟩
abbrev main_call12_v7 : Ref sig .tc := ⟨.hbm, 222, rfl⟩
abbrev main_call12_v8 : Ref sig .tc := ⟨.hbm, 223, rfl⟩
abbrev main_call12_v9 : Ref sig .tc := ⟨.hbm, 224, rfl⟩
abbrev main_v117 : Ref sig .tc := ⟨.hbm, 225, rfl⟩
abbrev main_c_59 : Ref sig .tc := ⟨.hbm, 226, rfl⟩
abbrev main_v118 : Ref sig .tc := ⟨.hbm, 227, rfl⟩
abbrev main_c_60 : Ref sig .tc := ⟨.hbm, 228, rfl⟩
abbrev main_v119 : Ref sig .tc := ⟨.hbm, 229, rfl⟩
abbrev main_v120 : Ref sig .tc := ⟨.hbm, 230, rfl⟩
abbrev main_v121 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc3_stg1_0 : Ref sig .tc := ⟨.vmem, 15, rfl⟩
abbrev cc3_stg1_1 : Ref sig .tc := ⟨.vmem, 16, rfl⟩
abbrev cc3_stg2_0 : Ref sig .tc := ⟨.vmem, 17, rfl⟩
abbrev cc3_stg2_1 : Ref sig .tc := ⟨.vmem, 18, rfl⟩
abbrev cc3_stg3_0 : Ref sig .tc := ⟨.vmem, 19, rfl⟩
abbrev cc3_stg3_1 : Ref sig .tc := ⟨.vmem, 20, rfl⟩
abbrev cc4_stg1_0 : Ref sig .tc := ⟨.vmem, 21, rfl⟩
abbrev cc4_stg1_1 : Ref sig .tc := ⟨.vmem, 22, rfl⟩
abbrev cc4_stg2_0 : Ref sig .tc := ⟨.vmem, 23, rfl⟩
abbrev cc4_stg2_1 : Ref sig .tc := ⟨.vmem, 24, rfl⟩
abbrev cc4_stg3_0 : Ref sig .tc := ⟨.vmem, 25, rfl⟩
abbrev cc4_stg3_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc5_stg3_0 : Ref sig .tc := ⟨.vmem, 31, rfl⟩
abbrev cc5_stg3_1 : Ref sig .tc := ⟨.vmem, 32, rfl⟩
abbrev cc0_stg0_0 : Ref sig .tc := ⟨.smem, 0, rfl⟩
abbrev cc1_stg0_0 : Ref sig .tc := ⟨.smem, 1, rfl⟩
abbrev cc2_stg0_0 : Ref sig .tc := ⟨.smem, 2, rfl⟩
abbrev cc3_stg0_0 : Ref sig .tc := ⟨.smem, 3, rfl⟩
abbrev cc4_stg0_0 : Ref sig .tc := ⟨.smem, 4, rfl⟩
abbrev cc5_stg0_0 : Ref sig .tc := ⟨.smem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc3_sem0_0 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc4_sem0_0 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc5_sem0_0 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem3_1 : DmaSem sig := 38

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32_1 : BitVec 32 := 0#32
  let c8_i32 : BitVec 32 := 8#32
  let v6 : BitVec 32 := Scalar.addi c0_i32_1 c8_i32
  let c1_i32 : BitVec 32 := 1#32
  ⟨c0_i32_1, v6, c1_i32⟩
def k0_mult1 (k0_t1 : Fin k0_t1_loop.trips) : BitVec 32 :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  v13
def k0_off1 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v15 : Index := Scalar.indexCast v14
  let c0_7 : Index := 0#32
  ![v15.toNat, 0]
def k0_off2 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v34 : Index := Scalar.indexCast v14
  let c128 : Index := 128#32
  ![v34.toNat, 128]
def k0_off3 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v53 : Index := Scalar.indexCast v14
  let c256 : Index := 256#32
  ![v53.toNat, 256]
def k0_off4 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v72 : Index := Scalar.indexCast v14
  let c384 : Index := 384#32
  ![v72.toNat, 384]
def k0_off5 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v91 : Index := Scalar.indexCast v14
  let c512 : Index := 512#32
  ![v91.toNat, 512]
def k0_off6 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v110 : Index := Scalar.indexCast v14
  let c640 : Index := 640#32
  ![v110.toNat, 640]
def k0_off7 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v129 : Index := Scalar.indexCast v14
  let c768 : Index := 768#32
  ![v129.toNat, 768]
def k0_off8 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v148 : Index := Scalar.indexCast v14
  let c896 : Index := 896#32
  ![v148.toNat, 896]
def k0_off9 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v167 : Index := Scalar.indexCast v14
  let c1024 : Index := 1024#32
  ![v167.toNat, 1024]
def k0_off10 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v186 : Index := Scalar.indexCast v14
  let c1152 : Index := 1152#32
  ![v186.toNat, 1152]
def k0_off11 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v205 : Index := Scalar.indexCast v14
  let c1280 : Index := 1280#32
  ![v205.toNat, 1280]
def k0_off12 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v224 : Index := Scalar.indexCast v14
  let c1408 : Index := 1408#32
  ![v224.toNat, 1408]
def k0_off13 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v243 : Index := Scalar.indexCast v14
  let c1536 : Index := 1536#32
  ![v243.toNat, 1536]
def k0_off14 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v262 : Index := Scalar.indexCast v14
  let c1664 : Index := 1664#32
  ![v262.toNat, 1664]
def k0_off15 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v281 : Index := Scalar.indexCast v14
  let c1792 : Index := 1792#32
  ![v281.toNat, 1792]
def k0_off16 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v300 : Index := Scalar.indexCast v14
  let c1920 : Index := 1920#32
  ![v300.toNat, 1920]
def k0_off17 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v319 : Index := Scalar.indexCast v14
  let c2048 : Index := 2048#32
  ![v319.toNat, 2048]
def k0_off18 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v338 : Index := Scalar.indexCast v14
  let c2176 : Index := 2176#32
  ![v338.toNat, 2176]
def k0_off19 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v357 : Index := Scalar.indexCast v14
  let c2304 : Index := 2304#32
  ![v357.toNat, 2304]
def k0_off20 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v376 : Index := Scalar.indexCast v14
  let c2432 : Index := 2432#32
  ![v376.toNat, 2432]
def k0_off21 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v395 : Index := Scalar.indexCast v14
  let c2560 : Index := 2560#32
  ![v395.toNat, 2560]
def k0_off22 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v414 : Index := Scalar.indexCast v14
  let c2688 : Index := 2688#32
  ![v414.toNat, 2688]
def k0_off23 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v433 : Index := Scalar.indexCast v14
  let c2816 : Index := 2816#32
  ![v433.toNat, 2816]
def k0_off24 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v452 : Index := Scalar.indexCast v14
  let c2944 : Index := 2944#32
  ![v452.toNat, 2944]
def k0_off25 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v471 : Index := Scalar.indexCast v14
  let c3072 : Index := 3072#32
  ![v471.toNat, 3072]
def k0_off26 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v490 : Index := Scalar.indexCast v14
  let c3200 : Index := 3200#32
  ![v490.toNat, 3200]
def k0_off27 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v509 : Index := Scalar.indexCast v14
  let c3328 : Index := 3328#32
  ![v509.toNat, 3328]
def k0_off28 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v528 : Index := Scalar.indexCast v14
  let c3456 : Index := 3456#32
  ![v528.toNat, 3456]
def k0_off29 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v547 : Index := Scalar.indexCast v14
  let c3584 : Index := 3584#32
  ![v547.toNat, 3584]
def k0_off30 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v566 : Index := Scalar.indexCast v14
  let c3712 : Index := 3712#32
  ![v566.toNat, 3712]
def k0_off31 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v585 : Index := Scalar.indexCast v14
  let c3840 : Index := 3840#32
  ![v585.toNat, 3840]
def k0_off32 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v604 : Index := Scalar.indexCast v14
  let c3968 : Index := 3968#32
  ![v604.toNat, 3968]
def k0_off33 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v623 : Index := Scalar.indexCast v14
  let c4096 : Index := 4096#32
  ![v623.toNat, 4096]
def k0_off34 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v642 : Index := Scalar.indexCast v14
  let c4224 : Index := 4224#32
  ![v642.toNat, 4224]
def k0_off35 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v661 : Index := Scalar.indexCast v14
  let c4352 : Index := 4352#32
  ![v661.toNat, 4352]
def k0_off36 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v680 : Index := Scalar.indexCast v14
  let c4480 : Index := 4480#32
  ![v680.toNat, 4480]
def k0_off37 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v699 : Index := Scalar.indexCast v14
  let c4608 : Index := 4608#32
  ![v699.toNat, 4608]
def k0_off38 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v718 : Index := Scalar.indexCast v14
  let c4736 : Index := 4736#32
  ![v718.toNat, 4736]
def k0_off39 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v737 : Index := Scalar.indexCast v14
  let c4864 : Index := 4864#32
  ![v737.toNat, 4864]
def k0_off40 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v756 : Index := Scalar.indexCast v14
  let c4992 : Index := 4992#32
  ![v756.toNat, 4992]
def k0_off41 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v775 : Index := Scalar.indexCast v14
  let c5120 : Index := 5120#32
  ![v775.toNat, 5120]
def k0_off42 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v794 : Index := Scalar.indexCast v14
  let c5248 : Index := 5248#32
  ![v794.toNat, 5248]
def k0_off43 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v813 : Index := Scalar.indexCast v14
  let c5376 : Index := 5376#32
  ![v813.toNat, 5376]
def k0_off44 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v832 : Index := Scalar.indexCast v14
  let c5504 : Index := 5504#32
  ![v832.toNat, 5504]
def k0_off45 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v851 : Index := Scalar.indexCast v14
  let c5632 : Index := 5632#32
  ![v851.toNat, 5632]
def k0_off46 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v870 : Index := Scalar.indexCast v14
  let c5760 : Index := 5760#32
  ![v870.toNat, 5760]
def k0_off47 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v889 : Index := Scalar.indexCast v14
  let c5888 : Index := 5888#32
  ![v889.toNat, 5888]
def k0_off48 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v908 : Index := Scalar.indexCast v14
  let c6016 : Index := 6016#32
  ![v908.toNat, 6016]
def k0_off49 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v927 : Index := Scalar.indexCast v14
  let c6144 : Index := 6144#32
  ![v927.toNat, 6144]
def k0_off50 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v946 : Index := Scalar.indexCast v14
  let c6272 : Index := 6272#32
  ![v946.toNat, 6272]
def k0_off51 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v965 : Index := Scalar.indexCast v14
  let c6400 : Index := 6400#32
  ![v965.toNat, 6400]
def k0_off52 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v984 : Index := Scalar.indexCast v14
  let c6528 : Index := 6528#32
  ![v984.toNat, 6528]
def k0_off53 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1003 : Index := Scalar.indexCast v14
  let c6656 : Index := 6656#32
  ![v1003.toNat, 6656]
def k0_off54 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1022 : Index := Scalar.indexCast v14
  let c6784 : Index := 6784#32
  ![v1022.toNat, 6784]
def k0_off55 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1041 : Index := Scalar.indexCast v14
  let c6912 : Index := 6912#32
  ![v1041.toNat, 6912]
def k0_off56 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1060 : Index := Scalar.indexCast v14
  let c7040 : Index := 7040#32
  ![v1060.toNat, 7040]
def k0_off57 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1079 : Index := Scalar.indexCast v14
  let c7168 : Index := 7168#32
  ![v1079.toNat, 7168]
def k0_off58 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1098 : Index := Scalar.indexCast v14
  let c7296 : Index := 7296#32
  ![v1098.toNat, 7296]
def k0_off59 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1117 : Index := Scalar.indexCast v14
  let c7424 : Index := 7424#32
  ![v1117.toNat, 7424]
def k0_off60 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1136 : Index := Scalar.indexCast v14
  let c7552 : Index := 7552#32
  ![v1136.toNat, 7552]
def k0_off61 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1155 : Index := Scalar.indexCast v14
  let c7680 : Index := 7680#32
  ![v1155.toNat, 7680]
def k0_off62 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1174 : Index := Scalar.indexCast v14
  let c7808 : Index := 7808#32
  ![v1174.toNat, 7808]
def k0_off63 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1193 : Index := Scalar.indexCast v14
  let c7936 : Index := 7936#32
  ![v1193.toNat, 7936]
def k0_off64 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1212 : Index := Scalar.indexCast v14
  let c8064 : Index := 8064#32
  ![v1212.toNat, 8064]
def k0_off65 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1231 : Index := Scalar.indexCast v14
  let c8192 : Index := 8192#32
  ![v1231.toNat, 8192]
def k0_off66 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1250 : Index := Scalar.indexCast v14
  let c8320 : Index := 8320#32
  ![v1250.toNat, 8320]
def k0_off67 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1269 : Index := Scalar.indexCast v14
  let c8448 : Index := 8448#32
  ![v1269.toNat, 8448]
def k0_off68 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1288 : Index := Scalar.indexCast v14
  let c8576 : Index := 8576#32
  ![v1288.toNat, 8576]
def k0_off69 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1307 : Index := Scalar.indexCast v14
  let c8704 : Index := 8704#32
  ![v1307.toNat, 8704]
def k0_off70 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1326 : Index := Scalar.indexCast v14
  let c8832 : Index := 8832#32
  ![v1326.toNat, 8832]
def k0_off71 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1345 : Index := Scalar.indexCast v14
  let c8960 : Index := 8960#32
  ![v1345.toNat, 8960]
def k0_off72 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1364 : Index := Scalar.indexCast v14
  let c9088 : Index := 9088#32
  ![v1364.toNat, 9088]
def k0_off73 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1383 : Index := Scalar.indexCast v14
  let c9216 : Index := 9216#32
  ![v1383.toNat, 9216]
def k0_off74 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1402 : Index := Scalar.indexCast v14
  let c9344 : Index := 9344#32
  ![v1402.toNat, 9344]
def k0_off75 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1421 : Index := Scalar.indexCast v14
  let c9472 : Index := 9472#32
  ![v1421.toNat, 9472]
def k0_off76 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1440 : Index := Scalar.indexCast v14
  let c9600 : Index := 9600#32
  ![v1440.toNat, 9600]
def k0_off77 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1459 : Index := Scalar.indexCast v14
  let c9728 : Index := 9728#32
  ![v1459.toNat, 9728]
def k0_off78 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1478 : Index := Scalar.indexCast v14
  let c9856 : Index := 9856#32
  ![v1478.toNat, 9856]
def k0_off79 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1497 : Index := Scalar.indexCast v14
  let c9984 : Index := 9984#32
  ![v1497.toNat, 9984]
def k0_off80 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1516 : Index := Scalar.indexCast v14
  let c10112 : Index := 10112#32
  ![v1516.toNat, 10112]
def k0_off81 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1535 : Index := Scalar.indexCast v14
  let c10240 : Index := 10240#32
  ![v1535.toNat, 10240]
def k0_off82 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1554 : Index := Scalar.indexCast v14
  let c10368 : Index := 10368#32
  ![v1554.toNat, 10368]
def k0_off83 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1573 : Index := Scalar.indexCast v14
  let c10496 : Index := 10496#32
  ![v1573.toNat, 10496]
def k0_off84 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1592 : Index := Scalar.indexCast v14
  let c10624 : Index := 10624#32
  ![v1592.toNat, 10624]
def k0_off85 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1611 : Index := Scalar.indexCast v14
  let c10752 : Index := 10752#32
  ![v1611.toNat, 10752]
def k0_off86 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1630 : Index := Scalar.indexCast v14
  let c10880 : Index := 10880#32
  ![v1630.toNat, 10880]
def k0_off87 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1649 : Index := Scalar.indexCast v14
  let c11008 : Index := 11008#32
  ![v1649.toNat, 11008]
def k0_off88 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1668 : Index := Scalar.indexCast v14
  let c11136 : Index := 11136#32
  ![v1668.toNat, 11136]
def k0_off89 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1687 : Index := Scalar.indexCast v14
  let c11264 : Index := 11264#32
  ![v1687.toNat, 11264]
def k0_off90 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1706 : Index := Scalar.indexCast v14
  let c11392 : Index := 11392#32
  ![v1706.toNat, 11392]
def k0_off91 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1725 : Index := Scalar.indexCast v14
  let c11520 : Index := 11520#32
  ![v1725.toNat, 11520]
def k0_off92 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1744 : Index := Scalar.indexCast v14
  let c11648 : Index := 11648#32
  ![v1744.toNat, 11648]
def k0_off93 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1763 : Index := Scalar.indexCast v14
  let c11776 : Index := 11776#32
  ![v1763.toNat, 11776]
def k0_off94 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1782 : Index := Scalar.indexCast v14
  let c11904 : Index := 11904#32
  ![v1782.toNat, 11904]
def k0_off95 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1801 : Index := Scalar.indexCast v14
  let c12032 : Index := 12032#32
  ![v1801.toNat, 12032]
def k0_off96 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1820 : Index := Scalar.indexCast v14
  let c12160 : Index := 12160#32
  ![v1820.toNat, 12160]
def k0_off97 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1839 : Index := Scalar.indexCast v14
  let c12288 : Index := 12288#32
  ![v1839.toNat, 12288]
def k0_off98 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1858 : Index := Scalar.indexCast v14
  let c12416 : Index := 12416#32
  ![v1858.toNat, 12416]
def k0_off99 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1877 : Index := Scalar.indexCast v14
  let c12544 : Index := 12544#32
  ![v1877.toNat, 12544]
def k0_off100 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1896 : Index := Scalar.indexCast v14
  let c12672 : Index := 12672#32
  ![v1896.toNat, 12672]
def k0_off101 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1915 : Index := Scalar.indexCast v14
  let c12800 : Index := 12800#32
  ![v1915.toNat, 12800]
def k0_off102 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1934 : Index := Scalar.indexCast v14
  let c12928 : Index := 12928#32
  ![v1934.toNat, 12928]
def k0_off103 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1953 : Index := Scalar.indexCast v14
  let c13056 : Index := 13056#32
  ![v1953.toNat, 13056]
def k0_off104 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1972 : Index := Scalar.indexCast v14
  let c13184 : Index := 13184#32
  ![v1972.toNat, 13184]
def k0_off105 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v1991 : Index := Scalar.indexCast v14
  let c13312 : Index := 13312#32
  ![v1991.toNat, 13312]
def k0_off106 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v2010 : Index := Scalar.indexCast v14
  let c13440 : Index := 13440#32
  ![v2010.toNat, 13440]
def k0_off107 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v2029 : Index := Scalar.indexCast v14
  let c13568 : Index := 13568#32
  ![v2029.toNat, 13568]
def k0_off108 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v2048 : Index := Scalar.indexCast v14
  let c13696 : Index := 13696#32
  ![v2048.toNat, 13696]
def k0_off109 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v2067 : Index := Scalar.indexCast v14
  let c13824 : Index := 13824#32
  ![v2067.toNat, 13824]
def k0_off110 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v2086 : Index := Scalar.indexCast v14
  let c13952 : Index := 13952#32
  ![v2086.toNat, 13952]
def k0_off111 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v2105 : Index := Scalar.indexCast v14
  let c14080 : Index := 14080#32
  ![v2105.toNat, 14080]
def k0_off112 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v2124 : Index := Scalar.indexCast v14
  let c14208 : Index := 14208#32
  ![v2124.toNat, 14208]
def k0_off113 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v2143 : Index := Scalar.indexCast v14
  let c14336 : Index := 14336#32
  ![v2143.toNat, 14336]
def k0_off114 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v2162 : Index := Scalar.indexCast v14
  let c14464 : Index := 14464#32
  ![v2162.toNat, 14464]
def k0_off115 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v2181 : Index := Scalar.indexCast v14
  let c14592 : Index := 14592#32
  ![v2181.toNat, 14592]
def k0_off116 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v2200 : Index := Scalar.indexCast v14
  let c14720 : Index := 14720#32
  ![v2200.toNat, 14720]
def k0_off117 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v2219 : Index := Scalar.indexCast v14
  let c14848 : Index := 14848#32
  ![v2219.toNat, 14848]
def k0_off118 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v2238 : Index := Scalar.indexCast v14
  let c14976 : Index := 14976#32
  ![v2238.toNat, 14976]
def k0_off119 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v2257 : Index := Scalar.indexCast v14
  let c15104 : Index := 15104#32
  ![v2257.toNat, 15104]
def k0_off120 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v2276 : Index := Scalar.indexCast v14
  let c15232 : Index := 15232#32
  ![v2276.toNat, 15232]
def k0_off121 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c32_i32 : BitVec 32 := 32#32
  let v13 : BitVec 32 := Scalar.muli arg5 c32_i32
  let v14 : BitVec 32 := v13
  let v2295 : Index := Scalar.indexCast v14
  let c15360 : Index := 15360#32
  ![v2295.toNat, 15360]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x15488 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x15488 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![44], ![false]⟩

@[reducible] def k1_t1_loop : Scf.Loop 32 :=
  let c0_i32_1 : BitVec 32 := 0#32
  let c11_i32 : BitVec 32 := 11#32
  let v6 : BitVec 32 := Scalar.addi c0_i32_1 c11_i32
  let c1_i32 : BitVec 32 := 1#32
  ⟨c0_i32_1, v6, c1_i32⟩
def k1_mult1 (k1_t1 : Fin k1_t1_loop.trips) : BitVec 32 :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  v13
def k1_off1 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v15 : Index := Scalar.indexCast v14
  let c0_7 : Index := 0#32
  ![v15.toNat, 0]
def k1_off2 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v33 : Index := Scalar.indexCast v14
  let c128 : Index := 128#32
  ![v33.toNat, 128]
def k1_off3 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v51 : Index := Scalar.indexCast v14
  let c256 : Index := 256#32
  ![v51.toNat, 256]
def k1_off4 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v69 : Index := Scalar.indexCast v14
  let c384 : Index := 384#32
  ![v69.toNat, 384]
def k1_off5 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v87 : Index := Scalar.indexCast v14
  let c512 : Index := 512#32
  ![v87.toNat, 512]
def k1_off6 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v105 : Index := Scalar.indexCast v14
  let c640 : Index := 640#32
  ![v105.toNat, 640]
def k1_off7 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v123 : Index := Scalar.indexCast v14
  let c768 : Index := 768#32
  ![v123.toNat, 768]
def k1_off8 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v141 : Index := Scalar.indexCast v14
  let c896 : Index := 896#32
  ![v141.toNat, 896]
def k1_off9 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v159 : Index := Scalar.indexCast v14
  let c1024 : Index := 1024#32
  ![v159.toNat, 1024]
def k1_off10 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v177 : Index := Scalar.indexCast v14
  let c1152 : Index := 1152#32
  ![v177.toNat, 1152]
def k1_off11 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v195 : Index := Scalar.indexCast v14
  let c1280 : Index := 1280#32
  ![v195.toNat, 1280]
def k1_off12 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v213 : Index := Scalar.indexCast v14
  let c1408 : Index := 1408#32
  ![v213.toNat, 1408]
def k1_off13 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v231 : Index := Scalar.indexCast v14
  let c1536 : Index := 1536#32
  ![v231.toNat, 1536]
def k1_off14 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v249 : Index := Scalar.indexCast v14
  let c1664 : Index := 1664#32
  ![v249.toNat, 1664]
def k1_off15 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v267 : Index := Scalar.indexCast v14
  let c1792 : Index := 1792#32
  ![v267.toNat, 1792]
def k1_off16 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v285 : Index := Scalar.indexCast v14
  let c1920 : Index := 1920#32
  ![v285.toNat, 1920]
def k1_off17 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v303 : Index := Scalar.indexCast v14
  let c2048 : Index := 2048#32
  ![v303.toNat, 2048]
def k1_off18 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v321 : Index := Scalar.indexCast v14
  let c2176 : Index := 2176#32
  ![v321.toNat, 2176]
def k1_off19 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v339 : Index := Scalar.indexCast v14
  let c2304 : Index := 2304#32
  ![v339.toNat, 2304]
def k1_off20 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v357 : Index := Scalar.indexCast v14
  let c2432 : Index := 2432#32
  ![v357.toNat, 2432]
def k1_off21 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v375 : Index := Scalar.indexCast v14
  let c2560 : Index := 2560#32
  ![v375.toNat, 2560]
def k1_off22 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v393 : Index := Scalar.indexCast v14
  let c2688 : Index := 2688#32
  ![v393.toNat, 2688]
def k1_off23 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v411 : Index := Scalar.indexCast v14
  let c2816 : Index := 2816#32
  ![v411.toNat, 2816]
def k1_off24 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v429 : Index := Scalar.indexCast v14
  let c2944 : Index := 2944#32
  ![v429.toNat, 2944]
def k1_off25 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v447 : Index := Scalar.indexCast v14
  let c3072 : Index := 3072#32
  ![v447.toNat, 3072]
def k1_off26 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v465 : Index := Scalar.indexCast v14
  let c3200 : Index := 3200#32
  ![v465.toNat, 3200]
def k1_off27 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v483 : Index := Scalar.indexCast v14
  let c3328 : Index := 3328#32
  ![v483.toNat, 3328]
def k1_off28 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v501 : Index := Scalar.indexCast v14
  let c3456 : Index := 3456#32
  ![v501.toNat, 3456]
def k1_off29 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v519 : Index := Scalar.indexCast v14
  let c3584 : Index := 3584#32
  ![v519.toNat, 3584]
def k1_off30 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v537 : Index := Scalar.indexCast v14
  let c3712 : Index := 3712#32
  ![v537.toNat, 3712]
def k1_off31 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v555 : Index := Scalar.indexCast v14
  let c3840 : Index := 3840#32
  ![v555.toNat, 3840]
def k1_off32 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v573 : Index := Scalar.indexCast v14
  let c3968 : Index := 3968#32
  ![v573.toNat, 3968]
def k1_off33 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v591 : Index := Scalar.indexCast v14
  let c4096 : Index := 4096#32
  ![v591.toNat, 4096]
def k1_off34 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v609 : Index := Scalar.indexCast v14
  let c4224 : Index := 4224#32
  ![v609.toNat, 4224]
def k1_off35 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v627 : Index := Scalar.indexCast v14
  let c4352 : Index := 4352#32
  ![v627.toNat, 4352]
def k1_off36 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v645 : Index := Scalar.indexCast v14
  let c4480 : Index := 4480#32
  ![v645.toNat, 4480]
def k1_off37 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v663 : Index := Scalar.indexCast v14
  let c4608 : Index := 4608#32
  ![v663.toNat, 4608]
def k1_off38 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v681 : Index := Scalar.indexCast v14
  let c4736 : Index := 4736#32
  ![v681.toNat, 4736]
def k1_off39 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v699 : Index := Scalar.indexCast v14
  let c4864 : Index := 4864#32
  ![v699.toNat, 4864]
def k1_off40 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v717 : Index := Scalar.indexCast v14
  let c4992 : Index := 4992#32
  ![v717.toNat, 4992]
def k1_off41 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v735 : Index := Scalar.indexCast v14
  let c5120 : Index := 5120#32
  ![v735.toNat, 5120]
def k1_off42 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v753 : Index := Scalar.indexCast v14
  let c5248 : Index := 5248#32
  ![v753.toNat, 5248]
def k1_off43 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v771 : Index := Scalar.indexCast v14
  let c5376 : Index := 5376#32
  ![v771.toNat, 5376]
def k1_off44 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v789 : Index := Scalar.indexCast v14
  let c5504 : Index := 5504#32
  ![v789.toNat, 5504]
def k1_off45 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v807 : Index := Scalar.indexCast v14
  let c5632 : Index := 5632#32
  ![v807.toNat, 5632]
def k1_off46 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v825 : Index := Scalar.indexCast v14
  let c5760 : Index := 5760#32
  ![v825.toNat, 5760]
def k1_off47 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v843 : Index := Scalar.indexCast v14
  let c5888 : Index := 5888#32
  ![v843.toNat, 5888]
def k1_off48 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v861 : Index := Scalar.indexCast v14
  let c6016 : Index := 6016#32
  ![v861.toNat, 6016]
def k1_off49 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v879 : Index := Scalar.indexCast v14
  let c6144 : Index := 6144#32
  ![v879.toNat, 6144]
def k1_off50 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v897 : Index := Scalar.indexCast v14
  let c6272 : Index := 6272#32
  ![v897.toNat, 6272]
def k1_off51 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v915 : Index := Scalar.indexCast v14
  let c6400 : Index := 6400#32
  ![v915.toNat, 6400]
def k1_off52 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v933 : Index := Scalar.indexCast v14
  let c6528 : Index := 6528#32
  ![v933.toNat, 6528]
def k1_off53 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v951 : Index := Scalar.indexCast v14
  let c6656 : Index := 6656#32
  ![v951.toNat, 6656]
def k1_off54 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v969 : Index := Scalar.indexCast v14
  let c6784 : Index := 6784#32
  ![v969.toNat, 6784]
def k1_off55 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v987 : Index := Scalar.indexCast v14
  let c6912 : Index := 6912#32
  ![v987.toNat, 6912]
def k1_off56 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v1005 : Index := Scalar.indexCast v14
  let c7040 : Index := 7040#32
  ![v1005.toNat, 7040]
def k1_off57 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v1023 : Index := Scalar.indexCast v14
  let c7168 : Index := 7168#32
  ![v1023.toNat, 7168]
def k1_off58 (k1_t1 : Fin k1_t1_loop.trips) : Fin 2 → Nat :=
  let c0_i32_1 : BitVec 32 := 0#32
  let c1_i32 : BitVec 32 := 1#32
  let arg5 : BitVec 32 := Scf.iv c0_i32_1 c1_i32 k1_t1
  let c32_i32 : BitVec 32 := 32#32
  let v13 : BitVec 32 := Scalar.muli arg5 c32_i32
  let v14 : BitVec 32 := v13
  let v1041 : Index := Scalar.indexCast v14
  let c7296 : Index := 7296#32
  ![v1041.toNat, 7296]
def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S352x7424 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S352x7424 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![12], ![false]⟩

@[reducible] def k2_t1_loop : Scf.Loop 32 :=
  let c0_i32_1 : BitVec 32 := 0#32
  let c16_i32 : BitVec 32 := 16#32
  let v6 : BitVec 32 := Scalar.addi c0_i32_1 c16_i32
  let c1_i32 : BitVec 32 := 1#32
  ⟨c0_i32_1, v6, c1_i32⟩
def k2_mult1 (k2_t1 : Fin k2_t1_loop.trips) : BitVec 32 :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  v13
def k2_off1 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v15 : Index := Scalar.indexCast v14
  let c0_7 : Index := 0#32
  ![v15.toNat, 0]
def k2_off2 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v34 : Index := Scalar.indexCast v14
  let c128 : Index := 128#32
  ![v34.toNat, 128]
def k2_off3 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v53 : Index := Scalar.indexCast v14
  let c256 : Index := 256#32
  ![v53.toNat, 256]
def k2_off4 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v72 : Index := Scalar.indexCast v14
  let c384 : Index := 384#32
  ![v72.toNat, 384]
def k2_off5 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v91 : Index := Scalar.indexCast v14
  let c512 : Index := 512#32
  ![v91.toNat, 512]
def k2_off6 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v110 : Index := Scalar.indexCast v14
  let c640 : Index := 640#32
  ![v110.toNat, 640]
def k2_off7 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v129 : Index := Scalar.indexCast v14
  let c768 : Index := 768#32
  ![v129.toNat, 768]
def k2_off8 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v148 : Index := Scalar.indexCast v14
  let c896 : Index := 896#32
  ![v148.toNat, 896]
def k2_off9 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v167 : Index := Scalar.indexCast v14
  let c1024 : Index := 1024#32
  ![v167.toNat, 1024]
def k2_off10 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v186 : Index := Scalar.indexCast v14
  let c1152 : Index := 1152#32
  ![v186.toNat, 1152]
def k2_off11 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v205 : Index := Scalar.indexCast v14
  let c1280 : Index := 1280#32
  ![v205.toNat, 1280]
def k2_off12 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v224 : Index := Scalar.indexCast v14
  let c1408 : Index := 1408#32
  ![v224.toNat, 1408]
def k2_off13 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v243 : Index := Scalar.indexCast v14
  let c1536 : Index := 1536#32
  ![v243.toNat, 1536]
def k2_off14 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v262 : Index := Scalar.indexCast v14
  let c1664 : Index := 1664#32
  ![v262.toNat, 1664]
def k2_off15 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v281 : Index := Scalar.indexCast v14
  let c1792 : Index := 1792#32
  ![v281.toNat, 1792]
def k2_off16 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v300 : Index := Scalar.indexCast v14
  let c1920 : Index := 1920#32
  ![v300.toNat, 1920]
def k2_off17 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v319 : Index := Scalar.indexCast v14
  let c2048 : Index := 2048#32
  ![v319.toNat, 2048]
def k2_off18 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v338 : Index := Scalar.indexCast v14
  let c2176 : Index := 2176#32
  ![v338.toNat, 2176]
def k2_off19 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v357 : Index := Scalar.indexCast v14
  let c2304 : Index := 2304#32
  ![v357.toNat, 2304]
def k2_off20 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v376 : Index := Scalar.indexCast v14
  let c2432 : Index := 2432#32
  ![v376.toNat, 2432]
def k2_off21 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v395 : Index := Scalar.indexCast v14
  let c2560 : Index := 2560#32
  ![v395.toNat, 2560]
def k2_off22 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v414 : Index := Scalar.indexCast v14
  let c2688 : Index := 2688#32
  ![v414.toNat, 2688]
def k2_off23 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v433 : Index := Scalar.indexCast v14
  let c2816 : Index := 2816#32
  ![v433.toNat, 2816]
def k2_off24 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v452 : Index := Scalar.indexCast v14
  let c2944 : Index := 2944#32
  ![v452.toNat, 2944]
def k2_off25 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v471 : Index := Scalar.indexCast v14
  let c3072 : Index := 3072#32
  ![v471.toNat, 3072]
def k2_off26 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v490 : Index := Scalar.indexCast v14
  let c3200 : Index := 3200#32
  ![v490.toNat, 3200]
def k2_off27 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v509 : Index := Scalar.indexCast v14
  let c3328 : Index := 3328#32
  ![v509.toNat, 3328]
def k2_off28 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v528 : Index := Scalar.indexCast v14
  let c3456 : Index := 3456#32
  ![v528.toNat, 3456]
def k2_off29 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v547 : Index := Scalar.indexCast v14
  let c3584 : Index := 3584#32
  ![v547.toNat, 3584]
def k2_off30 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v566 : Index := Scalar.indexCast v14
  let c3712 : Index := 3712#32
  ![v566.toNat, 3712]
def k2_off31 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v585 : Index := Scalar.indexCast v14
  let c3840 : Index := 3840#32
  ![v585.toNat, 3840]
def k2_off32 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v604 : Index := Scalar.indexCast v14
  let c3968 : Index := 3968#32
  ![v604.toNat, 3968]
def k2_off33 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v623 : Index := Scalar.indexCast v14
  let c4096 : Index := 4096#32
  ![v623.toNat, 4096]
def k2_off34 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v642 : Index := Scalar.indexCast v14
  let c4224 : Index := 4224#32
  ![v642.toNat, 4224]
def k2_off35 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v661 : Index := Scalar.indexCast v14
  let c4352 : Index := 4352#32
  ![v661.toNat, 4352]
def k2_off36 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v680 : Index := Scalar.indexCast v14
  let c4480 : Index := 4480#32
  ![v680.toNat, 4480]
def k2_off37 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v699 : Index := Scalar.indexCast v14
  let c4608 : Index := 4608#32
  ![v699.toNat, 4608]
def k2_off38 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v718 : Index := Scalar.indexCast v14
  let c4736 : Index := 4736#32
  ![v718.toNat, 4736]
def k2_off39 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v737 : Index := Scalar.indexCast v14
  let c4864 : Index := 4864#32
  ![v737.toNat, 4864]
def k2_off40 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v756 : Index := Scalar.indexCast v14
  let c4992 : Index := 4992#32
  ![v756.toNat, 4992]
def k2_off41 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v775 : Index := Scalar.indexCast v14
  let c5120 : Index := 5120#32
  ![v775.toNat, 5120]
def k2_off42 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v794 : Index := Scalar.indexCast v14
  let c5248 : Index := 5248#32
  ![v794.toNat, 5248]
def k2_off43 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v813 : Index := Scalar.indexCast v14
  let c5376 : Index := 5376#32
  ![v813.toNat, 5376]
def k2_off44 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v832 : Index := Scalar.indexCast v14
  let c5504 : Index := 5504#32
  ![v832.toNat, 5504]
def k2_off45 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v851 : Index := Scalar.indexCast v14
  let c5632 : Index := 5632#32
  ![v851.toNat, 5632]
def k2_off46 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v870 : Index := Scalar.indexCast v14
  let c5760 : Index := 5760#32
  ![v870.toNat, 5760]
def k2_off47 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v889 : Index := Scalar.indexCast v14
  let c5888 : Index := 5888#32
  ![v889.toNat, 5888]
def k2_off48 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v908 : Index := Scalar.indexCast v14
  let c6016 : Index := 6016#32
  ![v908.toNat, 6016]
def k2_off49 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v927 : Index := Scalar.indexCast v14
  let c6144 : Index := 6144#32
  ![v927.toNat, 6144]
def k2_off50 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v946 : Index := Scalar.indexCast v14
  let c6272 : Index := 6272#32
  ![v946.toNat, 6272]
def k2_off51 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v965 : Index := Scalar.indexCast v14
  let c6400 : Index := 6400#32
  ![v965.toNat, 6400]
def k2_off52 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v984 : Index := Scalar.indexCast v14
  let c6528 : Index := 6528#32
  ![v984.toNat, 6528]
def k2_off53 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v1003 : Index := Scalar.indexCast v14
  let c6656 : Index := 6656#32
  ![v1003.toNat, 6656]
def k2_off54 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v1022 : Index := Scalar.indexCast v14
  let c6784 : Index := 6784#32
  ![v1022.toNat, 6784]
def k2_off55 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v1041 : Index := Scalar.indexCast v14
  let c6912 : Index := 6912#32
  ![v1041.toNat, 6912]
def k2_off56 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v1060 : Index := Scalar.indexCast v14
  let c7040 : Index := 7040#32
  ![v1060.toNat, 7040]
def k2_off57 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v1079 : Index := Scalar.indexCast v14
  let c7168 : Index := 7168#32
  ![v1079.toNat, 7168]
def k2_off58 (k2_t1 : Fin k2_t1_loop.trips) : Fin 2 → Nat :=
  let c0_i32_1 : BitVec 32 := 0#32
  let c1_i32 : BitVec 32 := 1#32
  let arg5 : BitVec 32 := Scf.iv c0_i32_1 c1_i32 k2_t1
  let c32_i32 : BitVec 32 := 32#32
  let v13 : BitVec 32 := Scalar.muli arg5 c32_i32
  let v14 : BitVec 32 := v13
  let v1098 : Index := Scalar.indexCast v14
  let c7296 : Index := 7296#32
  ![v1098.toNat, 7296]
def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .smem S1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x7424 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x7424 .fp8e5m2 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨2, ![6, 29], ![false, false]⟩

def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .smem S1 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 2 → Memref sig .tc .vmem S1024x15488 .fp8e4m3 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S15488x256 .fp8e4m3 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![6, 11], ![false, false]⟩

def cc4_transform_0 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .smem S1 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 2 → Memref sig .tc .vmem S1024x7424 .fp8e5m2 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1408x7424 .fp8e4m3 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1024x1408 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![11, 29], ![false, false]⟩

def cc5_transform_0 (i : grid5.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .smem S1 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, false]

abbrev stage5_1 : Fin 2 → Memref sig .tc .vmem S6144x1408 .fp8e4m3 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S6144x256 .fp8e5m2 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S1408x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]
-- ==== ReferenceIdeal.lean ====
abbrev S3x2048x15488 : Shape := ⟨3, ![3, 2048, 15488]⟩
abbrev S15488x7424 : Shape := ⟨2, ![15488, 7424]⟩
abbrev S3x2048x7424 : Shape := ⟨3, ![3, 2048, 7424]⟩
abbrev S3x16 : Shape := ⟨2, ![3, 16]⟩
abbrev S_ : Shape := ⟨0, ![]⟩
abbrev S1x16 : Shape := ⟨2, ![1, 16]⟩
abbrev S16 : Shape := ⟨1, ![16]⟩
abbrev S254 : Shape := ⟨1, ![254]⟩
abbrev S1 : Shape := ⟨1, ![1]⟩
abbrev S6144x15488 : Shape := ⟨2, ![6144, 15488]⟩
abbrev S6144x7424 : Shape := ⟨2, ![6144, 7424]⟩
abbrev S3 : Shape := ⟨1, ![3]⟩

abbrev nBuf : Space → Nat
  | .hbm => 345
  | .vmem => 9
  | .smem => 6
  | _ => 0

abbrev hbmTy0_0 (i : Nat) : BufTy := match i % 128 with
  | 0 => ⟨S3x2048x15488, .bf16⟩
  | 1 => ⟨S15488x7424, .bf16⟩
  | 2 => ⟨S3x2048x7424, .bf16⟩
  | 3 => ⟨S3x16, .f32⟩
  | 4 => ⟨S_, .i32⟩
  | 5 => ⟨S1x16, .f32⟩
  | 6 => ⟨S16, .f32⟩
  | 7 => ⟨S_, .f32⟩
  | 8 => ⟨S_, .f32⟩
  | 9 => ⟨S_, .f32⟩
  | 10 => ⟨S_, .i1⟩
  | 11 => ⟨S_, .f32⟩
  | 12 => ⟨S_, .f32⟩
  | 13 => ⟨S254, .i32⟩
  | 14 => ⟨S_, .i32⟩
  | 15 => ⟨S254, .i32⟩
  | 16 => ⟨S254, .i32⟩
  | 17 => ⟨S_, .i32⟩
  | 18 => ⟨S254, .i32⟩
  | 19 => ⟨S254, .i32⟩
  | 20 => ⟨S254, .f32⟩
  | 21 => ⟨S_, .f32⟩
  | 22 => ⟨S254, .f32⟩
  | 23 => ⟨S254, .f32⟩
  | 24 => ⟨S_, .i32⟩
  | 25 => ⟨S254, .i32⟩
  | 26 => ⟨S254, .i1⟩
  | 27 => ⟨S_, .i32⟩
  | 28 => ⟨S254, .i32⟩
  | 29 => ⟨S254, .i1⟩
  | 30 => ⟨S_, .f32⟩
  | 31 => ⟨S_, .f32⟩
  | 32 => ⟨S254, .f32⟩
  | 33 => ⟨S254, .f32⟩
  | 34 => ⟨S_, .f32⟩
  | 35 => ⟨S_, .f32⟩
  | 36 => ⟨S254, .f32⟩
  | 37 => ⟨S254, .f32⟩
  | 38 => ⟨S_, .f32⟩
  | 39 => ⟨S254, .f32⟩
  | 40 => ⟨S254, .i1⟩
  | 41 => ⟨S_, .f32⟩
  | 42 => ⟨S254, .f32⟩
  | 43 => ⟨S_, .f32⟩
  | 44 => ⟨S254, .f32⟩
  | 45 => ⟨S254, .f32⟩
  | 46 => ⟨S_, .i32⟩
  | 47 => ⟨S254, .i32⟩
  | 48 => ⟨S254, .i1⟩
  | 49 => ⟨S_, .i32⟩
  | 50 => ⟨S254, .i32⟩
  | 51 => ⟨S254, .i1⟩
  | 52 => ⟨S_, .f32⟩
  | 53 => ⟨S_, .f32⟩
  | 54 => ⟨S254, .f32⟩
  | 55 => ⟨S254, .f32⟩
  | 56 => ⟨S_, .f32⟩
  | 57 => ⟨S_, .f32⟩
  | 58 => ⟨S254, .f32⟩
  | 59 => ⟨S254, .f32⟩
  | 60 => ⟨S254, .f32⟩
  | 61 => ⟨S254, .i1⟩
  | 62 => ⟨S254, .i1⟩
  | 63 => ⟨S_, .i32⟩
  | 64 => ⟨S_, .i32⟩
  | 65 => ⟨S254, .i32⟩
  | 66 => ⟨S254, .i32⟩
  | 67 => ⟨S_, .i32⟩
  | 68 => ⟨S_, .i32⟩
  | 69 => ⟨S_, .i32⟩
  | 70 => ⟨S_, .i32⟩
  | 71 => ⟨S_, .i32⟩
  | 72 => ⟨S_, .f32⟩
  | 73 => ⟨S_, .f32⟩
  | 74 => ⟨S_, .f32⟩
  | 75 => ⟨S_, .i32⟩
  | 76 => ⟨S_, .i1⟩
  | 77 => ⟨S_, .i32⟩
  | 78 => ⟨S_, .i1⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .i32⟩
  | 86 => ⟨S_, .f32⟩
  | 87 => ⟨S_, .f32⟩
  | 88 => ⟨S_, .f32⟩
  | 89 => ⟨S_, .i32⟩
  | 90 => ⟨S_, .i1⟩
  | 91 => ⟨S_, .i32⟩
  | 92 => ⟨S_, .i1⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S1x16, .f32⟩
  | 100 => ⟨S16, .f32⟩
  | 101 => ⟨S_, .f32⟩
  | 102 => ⟨S_, .f32⟩
  | 103 => ⟨S_, .f32⟩
  | 104 => ⟨S_, .i1⟩
  | 105 => ⟨S_, .f32⟩
  | 106 => ⟨S_, .f32⟩
  | 107 => ⟨S254, .i32⟩
  | 108 => ⟨S_, .i32⟩
  | 109 => ⟨S254, .i32⟩
  | 110 => ⟨S254, .i32⟩
  | 111 => ⟨S_, .i32⟩
  | 112 => ⟨S254, .i32⟩
  | 113 => ⟨S254, .i32⟩
  | 114 => ⟨S254, .f32⟩
  | 115 => ⟨S_, .f32⟩
  | 116 => ⟨S254, .f32⟩
  | 117 => ⟨S254, .f32⟩
  | 118 => ⟨S_, .i32⟩
  | 119 => ⟨S254, .i32⟩
  | 120 => ⟨S254, .i1⟩
  | 121 => ⟨S_, .i32⟩
  | 122 => ⟨S254, .i32⟩
  | 123 => ⟨S254, .i1⟩
  | 124 => ⟨S_, .f32⟩
  | 125 => ⟨S_, .f32⟩
  | 126 => ⟨S254, .f32⟩
  | 127 => ⟨S254, .f32⟩
  | _ => ⟨S3x2048x15488, .bf16⟩

abbrev hbmTy0_1 (i : Nat) : BufTy := match i % 128 with
  | 0 => ⟨S_, .f32⟩
  | 1 => ⟨S_, .f32⟩
  | 2 => ⟨S254, .f32⟩
  | 3 => ⟨S254, .f32⟩
  | 4 => ⟨S_, .f32⟩
  | 5 => ⟨S254, .f32⟩
  | 6 => ⟨S254, .i1⟩
  | 7 => ⟨S_, .f32⟩
  | 8 => ⟨S254, .f32⟩
  | 9 => ⟨S_, .f32⟩
  | 10 => ⟨S254, .f32⟩
  | 11 => ⟨S254, .f32⟩
  | 12 => ⟨S_, .i32⟩
  | 13 => ⟨S254, .i32⟩
  | 14 => ⟨S254, .i1⟩
  | 15 => ⟨S_, .i32⟩
  | 16 => ⟨S254, .i32⟩
  | 17 => ⟨S254, .i1⟩
  | 18 => ⟨S_, .f32⟩
  | 19 => ⟨S_, .f32⟩
  | 20 => ⟨S254, .f32⟩
  | 21 => ⟨S254, .f32⟩
  | 22 => ⟨S_, .f32⟩
  | 23 => ⟨S_, .f32⟩
  | 24 => ⟨S254, .f32⟩
  | 25 => ⟨S254, .f32⟩
  | 26 => ⟨S254, .f32⟩
  | 27 => ⟨S254, .i1⟩
  | 28 => ⟨S254, .i1⟩
  | 29 => ⟨S_, .i32⟩
  | 30 => ⟨S_, .i32⟩
  | 31 => ⟨S254, .i32⟩
  | 32 => ⟨S254, .i32⟩
  | 33 => ⟨S_, .i32⟩
  | 34 => ⟨S_, .i32⟩
  | 35 => ⟨S_, .i32⟩
  | 36 => ⟨S_, .i32⟩
  | 37 => ⟨S_, .i32⟩
  | 38 => ⟨S_, .f32⟩
  | 39 => ⟨S_, .f32⟩
  | 40 => ⟨S_, .f32⟩
  | 41 => ⟨S_, .i32⟩
  | 42 => ⟨S_, .i1⟩
  | 43 => ⟨S_, .i32⟩
  | 44 => ⟨S_, .i1⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .i32⟩
  | 52 => ⟨S_, .f32⟩
  | 53 => ⟨S_, .f32⟩
  | 54 => ⟨S_, .f32⟩
  | 55 => ⟨S_, .i32⟩
  | 56 => ⟨S_, .i1⟩
  | 57 => ⟨S_, .i32⟩
  | 58 => ⟨S_, .i1⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S1x16, .f32⟩
  | 66 => ⟨S16, .f32⟩
  | 67 => ⟨S_, .f32⟩
  | 68 => ⟨S_, .f32⟩
  | 69 => ⟨S_, .f32⟩
  | 70 => ⟨S_, .i1⟩
  | 71 => ⟨S_, .f32⟩
  | 72 => ⟨S_, .f32⟩
  | 73 => ⟨S254, .i32⟩
  | 74 => ⟨S_, .i32⟩
  | 75 => ⟨S254, .i32⟩
  | 76 => ⟨S254, .i32⟩
  | 77 => ⟨S_, .i32⟩
  | 78 => ⟨S254, .i32⟩
  | 79 => ⟨S254, .i32⟩
  | 80 => ⟨S254, .f32⟩
  | 81 => ⟨S_, .f32⟩
  | 82 => ⟨S254, .f32⟩
  | 83 => ⟨S254, .f32⟩
  | 84 => ⟨S_, .i32⟩
  | 85 => ⟨S254, .i32⟩
  | 86 => ⟨S254, .i1⟩
  | 87 => ⟨S_, .i32⟩
  | 88 => ⟨S254, .i32⟩
  | 89 => ⟨S254, .i1⟩
  | 90 => ⟨S_, .f32⟩
  | 91 => ⟨S_, .f32⟩
  | 92 => ⟨S254, .f32⟩
  | 93 => ⟨S254, .f32⟩
  | 94 => ⟨S_, .f32⟩
  | 95 => ⟨S_, .f32⟩
  | 96 => ⟨S254, .f32⟩
  | 97 => ⟨S254, .f32⟩
  | 98 => ⟨S_, .f32⟩
  | 99 => ⟨S254, .f32⟩
  | 100 => ⟨S254, .i1⟩
  | 101 => ⟨S_, .f32⟩
  | 102 => ⟨S254, .f32⟩
  | 103 => ⟨S_, .f32⟩
  | 104 => ⟨S254, .f32⟩
  | 105 => ⟨S254, .f32⟩
  | 106 => ⟨S_, .i32⟩
  | 107 => ⟨S254, .i32⟩
  | 108 => ⟨S254, .i1⟩
  | 109 => ⟨S_, .i32⟩
  | 110 => ⟨S254, .i32⟩
  | 111 => ⟨S254, .i1⟩
  | 112 => ⟨S_, .f32⟩
  | 113 => ⟨S_, .f32⟩
  | 114 => ⟨S254, .f32⟩
  | 115 => ⟨S254, .f32⟩
  | 116 => ⟨S_, .f32⟩
  | 117 => ⟨S_, .f32⟩
  | 118 => ⟨S254, .f32⟩
  | 119 => ⟨S254, .f32⟩
  | 120 => ⟨S254, .f32⟩
  | 121 => ⟨S254, .i1⟩
  | 122 => ⟨S254, .i1⟩
  | 123 => ⟨S_, .i32⟩
  | 124 => ⟨S_, .i32⟩
  | 125 => ⟨S254, .i32⟩
  | 126 => ⟨S254, .i32⟩
  | 127 => ⟨S_, .i32⟩
  | _ => ⟨S3x2048x15488, .bf16⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .f32⟩
  | 5 => ⟨S_, .f32⟩
  | 6 => ⟨S_, .f32⟩
  | 7 => ⟨S_, .i32⟩
  | 8 => ⟨S_, .i1⟩
  | 9 => ⟨S_, .i32⟩
  | 10 => ⟨S_, .i1⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .i32⟩
  | 18 => ⟨S_, .f32⟩
  | 19 => ⟨S_, .f32⟩
  | 20 => ⟨S_, .f32⟩
  | 21 => ⟨S_, .i32⟩
  | 22 => ⟨S_, .i1⟩
  | 23 => ⟨S_, .i32⟩
  | 24 => ⟨S_, .i1⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S1, .f32⟩
  | 32 => ⟨S1, .f32⟩
  | 33 => ⟨S1, .f32⟩
  | 34 => ⟨S1, .f32⟩
  | 35 => ⟨S1, .f32⟩
  | 36 => ⟨S1, .f32⟩
  | 37 => ⟨S6144x15488, .bf16⟩
  | 38 => ⟨S6144x7424, .bf16⟩
  | 39 => ⟨S6144x7424, .bf16⟩
  | 40 => ⟨S6144x15488, .bf16⟩
  | 41 => ⟨S15488x7424, .f32⟩
  | 42 => ⟨S6144x15488, .fp8e4m3⟩
  | 43 => ⟨S15488x7424, .fp8e4m3⟩
  | 44 => ⟨S6144x7424, .fp8e5m2⟩
  | 45 => ⟨S3x2048x15488, .f32⟩
  | 46 => ⟨S3x2048x15488, .f32⟩
  | 47 => ⟨S_, .f32⟩
  | 48 => ⟨S_, .f32⟩
  | 49 => ⟨S15488x7424, .f32⟩
  | 50 => ⟨S15488x7424, .f32⟩
  | 51 => ⟨S_, .f32⟩
  | 52 => ⟨S_, .f32⟩
  | 53 => ⟨S3x2048x7424, .f32⟩
  | 54 => ⟨S3x2048x7424, .f32⟩
  | 55 => ⟨S_, .f32⟩
  | 56 => ⟨S_, .f32⟩
  | 57 => ⟨S1, .f32⟩
  | 58 => ⟨S1, .f32⟩
  | 59 => ⟨S1, .f32⟩
  | 60 => ⟨S3, .f32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i1⟩
  | 70 => ⟨S_, .i32⟩
  | 71 => ⟨S_, .i1⟩
  | 72 => ⟨S_, .i32⟩
  | 73 => ⟨S_, .i1⟩
  | 74 => ⟨S_, .i1⟩
  | 75 => ⟨S_, .i1⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S1, .i32⟩
  | 84 => ⟨S3x16, .f32⟩
  | 85 => ⟨S3x2048x7424, .bf16⟩
  | 86 => ⟨S3x2048x15488, .bf16⟩
  | 87 => ⟨S3x2048x15488, .fp8e4m3⟩
  | 88 => ⟨S3x2048x7424, .fp8e5m2⟩
  | _ => ⟨S3x2048x15488, .bf16⟩

abbrev hbmTy (i : Nat) : BufTy := match i / 128 with
  | 0 => hbmTy0_0 i
  | 1 => hbmTy0_1 i
  | 2 => hbmTy0_2 i
  | _ => ⟨S3x2048x15488, .bf16⟩

abbrev bufTy : (tb : Table) → Fin (tcTables nBuf tb) → BufTy
  | .hbm, ⟨i, _⟩ => hbmTy i
  | .local _ .vmem, ⟨0, _⟩ => ⟨S6144x15488, .bf16⟩
  | .local _ .vmem, ⟨1, _⟩ => ⟨S15488x7424, .bf16⟩
  | .local _ .vmem, ⟨2, _⟩ => ⟨S6144x7424, .bf16⟩
  | .local _ .vmem, ⟨3, _⟩ => ⟨S6144x7424, .bf16⟩
  | .local _ .vmem, ⟨4, _⟩ => ⟨S6144x15488, .bf16⟩
  | .local _ .vmem, ⟨5, _⟩ => ⟨S15488x7424, .f32⟩
  | .local _ .vmem, ⟨6, _⟩ => ⟨S6144x15488, .fp8e4m3⟩
  | .local _ .vmem, ⟨7, _⟩ => ⟨S15488x7424, .fp8e4m3⟩
  | .local _ .vmem, ⟨8, _⟩ => ⟨S6144x7424, .fp8e5m2⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | .local _ .smem, ⟨5, _⟩ => ⟨S1, .f32⟩
  | _, _ => ⟨S3x2048x15488, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_c_4 : Ref sig .tc := ⟨.hbm, 24, rfl⟩
abbrev main_v13 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_cst_7 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_8 : Ref sig .tc := ⟨.hbm, 43, rfl⟩
abbrev main_v24 : Ref sig .tc := ⟨.hbm, 44, rfl⟩
abbrev main_v25 : Ref sig .tc := ⟨.hbm, 45, rfl⟩
abbrev main_c_9 : Ref sig .tc := ⟨.hbm, 46, rfl⟩
abbrev main_v26 : Ref sig .tc := ⟨.hbm, 47, rfl⟩
abbrev main_v27 : Ref sig .tc := ⟨.hbm, 48, rfl⟩
abbrev main_c_10 : Ref sig .tc := ⟨.hbm, 49, rfl⟩
abbrev main_v28 : Ref sig .tc := ⟨.hbm, 50, rfl⟩
abbrev main_v29 : Ref sig .tc := ⟨.hbm, 51, rfl⟩
abbrev main_cst_11 : Ref sig .tc := ⟨.hbm, 52, rfl⟩
abbrev main_call2_v0 : Ref sig .tc := ⟨.hbm, 53, rfl⟩
abbrev main_call2_v1 : Ref sig .tc := ⟨.hbm, 54, rfl⟩
abbrev main_v30 : Ref sig .tc := ⟨.hbm, 55, rfl⟩
abbrev main_cst_12 : Ref sig .tc := ⟨.hbm, 56, rfl⟩
abbrev main_call3_v0 : Ref sig .tc := ⟨.hbm, 57, rfl⟩
abbrev main_call3_v1 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_13 : Ref sig .tc := ⟨.hbm, 63, rfl⟩
abbrev main_call4_v0 : Ref sig .tc := ⟨.hbm, 64, rfl⟩
abbrev main_call4_v1 : Ref sig .tc := ⟨.hbm, 65, rfl⟩
abbrev main_v35 : Ref sig .tc := ⟨.hbm, 66, rfl⟩
abbrev main_c_14 : Ref sig .tc := ⟨.hbm, 67, rfl⟩
abbrev main_v36 : Ref sig .tc := ⟨.hbm, 68, rfl⟩
abbrev main_c_15 : Ref sig .tc := ⟨.hbm, 69, rfl⟩
abbrev main_call5_v0 : Ref sig .tc := ⟨.hbm, 70, rfl⟩
abbrev main_v37 : Ref sig .tc := ⟨.hbm, 71, rfl⟩
abbrev main_v38 : Ref sig .tc := ⟨.hbm, 72, rfl⟩
abbrev main_cst_16 : Ref sig .tc := ⟨.hbm, 73, rfl⟩
abbrev main_v39 : Ref sig .tc := ⟨.hbm, 74, rfl⟩
abbrev main_c_17 : Ref sig .tc := ⟨.hbm, 75, rfl⟩
abbrev main_v40 : Ref sig .tc := ⟨.hbm, 76, rfl⟩
abbrev main_c_18 : Ref sig .tc := ⟨.hbm, 77, rfl⟩
abbrev main_v41 : Ref sig .tc := ⟨.hbm, 78, rfl⟩
abbrev main_cst_19 : Ref sig .tc := ⟨.hbm, 79, rfl⟩
abbrev main_call6_v0 : Ref sig .tc := ⟨.hbm, 80, rfl⟩
abbrev main_v42 : Ref sig .tc := ⟨.hbm, 81, rfl⟩
abbrev main_cst_20 : Ref sig .tc := ⟨.hbm, 82, rfl⟩
abbrev main_call7_v0 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_21 : Ref sig .tc := ⟨.hbm, 87, rfl⟩
abbrev main_v46 : Ref sig .tc := ⟨.hbm, 88, rfl⟩
abbrev main_c_22 : Ref sig .tc := ⟨.hbm, 89, rfl⟩
abbrev main_v47 : Ref sig .tc := ⟨.hbm, 90, rfl⟩
abbrev main_c_23 : Ref sig .tc := ⟨.hbm, 91, rfl⟩
abbrev main_v48 : Ref sig .tc := ⟨.hbm, 92, rfl⟩
abbrev main_cst_24 : Ref sig .tc := ⟨.hbm, 93, rfl⟩
abbrev main_call8_v0 : Ref sig .tc := ⟨.hbm, 94, rfl⟩
abbrev main_v49 : Ref sig .tc := ⟨.hbm, 95, rfl⟩
abbrev main_cst_25 : Ref sig .tc := ⟨.hbm, 96, rfl⟩
abbrev main_call9_v0 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_26 : Ref sig .tc := ⟨.hbm, 101, rfl⟩
abbrev main_v53 : Ref sig .tc := ⟨.hbm, 102, rfl⟩
abbrev main_cst_27 : Ref sig .tc := ⟨.hbm, 103, rfl⟩
abbrev main_v54 : Ref sig .tc := ⟨.hbm, 104, rfl⟩
abbrev main_cst_28 : Ref sig .tc := ⟨.hbm, 105, rfl⟩
abbrev main_v55 : Ref sig .tc := ⟨.hbm, 106, rfl⟩
abbrev main_v56 : Ref sig .tc := ⟨.hbm, 107, rfl⟩
abbrev main_c_29 : Ref sig .tc := ⟨.hbm, 108, rfl⟩
abbrev main_v57 : Ref sig .tc := ⟨.hbm, 109, rfl⟩
abbrev main_v58 : Ref sig .tc := ⟨.hbm, 110, rfl⟩
abbrev main_c_30 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_cst_31 : Ref sig .tc := ⟨.hbm, 115, rfl⟩
abbrev main_v62 : Ref sig .tc := ⟨.hbm, 116, rfl⟩
abbrev main_v63 : Ref sig .tc := ⟨.hbm, 117, rfl⟩
abbrev main_c_32 : Ref sig .tc := ⟨.hbm, 118, rfl⟩
abbrev main_v64 : Ref sig .tc := ⟨.hbm, 119, rfl⟩
abbrev main_v65 : Ref sig .tc := ⟨.hbm, 120, rfl⟩
abbrev main_c_33 : Ref sig .tc := ⟨.hbm, 121, rfl⟩
abbrev main_v66 : Ref sig .tc := ⟨.hbm, 122, rfl⟩
abbrev main_v67 : Ref sig .tc := ⟨.hbm, 123, rfl⟩
abbrev main_cst_34 : Ref sig .tc := ⟨.hbm, 124, rfl⟩
abbrev main_call10_v0 : Ref sig .tc := ⟨.hbm, 125, rfl⟩
abbrev main_call10_v1 : Ref sig .tc := ⟨.hbm, 126, rfl⟩
abbrev main_v68 : Ref sig .tc := ⟨.hbm, 127, rfl⟩
abbrev main_cst_35 : Ref sig .tc := ⟨.hbm, 128, rfl⟩
abbrev main_call11_v0 : Ref sig .tc := ⟨.hbm, 129, rfl⟩
abbrev main_call11_v1 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_cst_36 : Ref sig .tc := ⟨.hbm, 137, rfl⟩
abbrev main_v75 : Ref sig .tc := ⟨.hbm, 138, rfl⟩
abbrev main_v76 : Ref sig .tc := ⟨.hbm, 139, rfl⟩
abbrev main_c_37 : Ref sig .tc := ⟨.hbm, 140, rfl⟩
abbrev main_v77 : Ref sig .tc := ⟨.hbm, 141, rfl⟩
abbrev main_v78 : Ref sig .tc := ⟨.hbm, 142, rfl⟩
abbrev main_c_38 : Ref sig .tc := ⟨.hbm, 143, rfl⟩
abbrev main_v79 : Ref sig .tc := ⟨.hbm, 144, rfl⟩
abbrev main_v80 : Ref sig .tc := ⟨.hbm, 145, rfl⟩
abbrev main_cst_39 : Ref sig .tc := ⟨.hbm, 146, rfl⟩
abbrev main_call12_v0 : Ref sig .tc := ⟨.hbm, 147, rfl⟩
abbrev main_call12_v1 : Ref sig .tc := ⟨.hbm, 148, rfl⟩
abbrev main_v81 : Ref sig .tc := ⟨.hbm, 149, rfl⟩
abbrev main_cst_40 : Ref sig .tc := ⟨.hbm, 150, rfl⟩
abbrev main_call13_v0 : Ref sig .tc := ⟨.hbm, 151, rfl⟩
abbrev main_call13_v1 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_c_41 : Ref sig .tc := ⟨.hbm, 157, rfl⟩
abbrev main_call14_v0 : Ref sig .tc := ⟨.hbm, 158, rfl⟩
abbrev main_call14_v1 : Ref sig .tc := ⟨.hbm, 159, rfl⟩
abbrev main_v86 : Ref sig .tc := ⟨.hbm, 160, rfl⟩
abbrev main_c_42 : Ref sig .tc := ⟨.hbm, 161, rfl⟩
abbrev main_v87 : Ref sig .tc := ⟨.hbm, 162, rfl⟩
abbrev main_c_43 : Ref sig .tc := ⟨.hbm, 163, rfl⟩
abbrev main_call15_v0 : Ref sig .tc := ⟨.hbm, 164, rfl⟩
abbrev main_v88 : Ref sig .tc := ⟨.hbm, 165, rfl⟩
abbrev main_v89 : Ref sig .tc := ⟨.hbm, 166, rfl⟩
abbrev main_cst_44 : Ref sig .tc := ⟨.hbm, 167, rfl⟩
abbrev main_v90 : Ref sig .tc := ⟨.hbm, 168, rfl⟩
abbrev main_c_45 : Ref sig .tc := ⟨.hbm, 169, rfl⟩
abbrev main_v91 : Ref sig .tc := ⟨.hbm, 170, rfl⟩
abbrev main_c_46 : Ref sig .tc := ⟨.hbm, 171, rfl⟩
abbrev main_v92 : Ref sig .tc := ⟨.hbm, 172, rfl⟩
abbrev main_cst_47 : Ref sig .tc := ⟨.hbm, 173, rfl⟩
abbrev main_call16_v0 : Ref sig .tc := ⟨.hbm, 174, rfl⟩
abbrev main_v93 : Ref sig .tc := ⟨.hbm, 175, rfl⟩
abbrev main_cst_48 : Ref sig .tc := ⟨.hbm, 176, rfl⟩
abbrev main_call17_v0 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_cst_49 : Ref sig .tc := ⟨.hbm, 181, rfl⟩
abbrev main_v97 : Ref sig .tc := ⟨.hbm, 182, rfl⟩
abbrev main_c_50 : Ref sig .tc := ⟨.hbm, 183, rfl⟩
abbrev main_v98 : Ref sig .tc := ⟨.hbm, 184, rfl⟩
abbrev main_c_51 : Ref sig .tc := ⟨.hbm, 185, rfl⟩
abbrev main_v99 : Ref sig .tc := ⟨.hbm, 186, rfl⟩
abbrev main_cst_52 : Ref sig .tc := ⟨.hbm, 187, rfl⟩
abbrev main_call18_v0 : Ref sig .tc := ⟨.hbm, 188, rfl⟩
abbrev main_v100 : Ref sig .tc := ⟨.hbm, 189, rfl⟩
abbrev main_cst_53 : Ref sig .tc := ⟨.hbm, 190, rfl⟩
abbrev main_call19_v0 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_cst_54 : Ref sig .tc := ⟨.hbm, 195, rfl⟩
abbrev main_v104 : Ref sig .tc := ⟨.hbm, 196, rfl⟩
abbrev main_cst_55 : Ref sig .tc := ⟨.hbm, 197, rfl⟩
abbrev main_v105 : Ref sig .tc := ⟨.hbm, 198, rfl⟩
abbrev main_cst_56 : Ref sig .tc := ⟨.hbm, 199, rfl⟩
abbrev main_v106 : Ref sig .tc := ⟨.hbm, 200, rfl⟩
abbrev main_v107 : Ref sig .tc := ⟨.hbm, 201, rfl⟩
abbrev main_c_57 : Ref sig .tc := ⟨.hbm, 202, rfl⟩
abbrev main_v108 : Ref sig .tc := ⟨.hbm, 203, rfl⟩
abbrev main_v109 : Ref sig .tc := ⟨.hbm, 204, rfl⟩
abbrev main_c_58 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_cst_59 : Ref sig .tc := ⟨.hbm, 209, rfl⟩
abbrev main_v113 : Ref sig .tc := ⟨.hbm, 210, rfl⟩
abbrev main_v114 : Ref sig .tc := ⟨.hbm, 211, rfl⟩
abbrev main_c_60 : Ref sig .tc := ⟨.hbm, 212, rfl⟩
abbrev main_v115 : Ref sig .tc := ⟨.hbm, 213, rfl⟩
abbrev main_v116 : Ref sig .tc := ⟨.hbm, 214, rfl⟩
abbrev main_c_61 : Ref sig .tc := ⟨.hbm, 215, rfl⟩
abbrev main_v117 : Ref sig .tc := ⟨.hbm, 216, rfl⟩
abbrev main_v118 : Ref sig .tc := ⟨.hbm, 217, rfl⟩
abbrev main_cst_62 : Ref sig .tc := ⟨.hbm, 218, rfl⟩
abbrev main_call20_v0 : Ref sig .tc := ⟨.hbm, 219, rfl⟩
abbrev main_call20_v1 : Ref sig .tc := ⟨.hbm, 220, rfl⟩
abbrev main_v119 : Ref sig .tc := ⟨.hbm, 221, rfl⟩
abbrev main_cst_63 : Ref sig .tc := ⟨.hbm, 222, rfl⟩
abbrev main_call21_v0 : Ref sig .tc := ⟨.hbm, 223, rfl⟩
abbrev main_call21_v1 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_cst_64 : Ref sig .tc := ⟨.hbm, 231, rfl⟩
abbrev main_v126 : Ref sig .tc := ⟨.hbm, 232, rfl⟩
abbrev main_v127 : Ref sig .tc := ⟨.hbm, 233, rfl⟩
abbrev main_c_65 : Ref sig .tc := ⟨.hbm, 234, rfl⟩
abbrev main_v128 : Ref sig .tc := ⟨.hbm, 235, rfl⟩
abbrev main_v129 : Ref sig .tc := ⟨.hbm, 236, rfl⟩
abbrev main_c_66 : Ref sig .tc := ⟨.hbm, 237, rfl⟩
abbrev main_v130 : Ref sig .tc := ⟨.hbm, 238, rfl⟩
abbrev main_v131 : Ref sig .tc := ⟨.hbm, 239, rfl⟩
abbrev main_cst_67 : Ref sig .tc := ⟨.hbm, 240, rfl⟩
abbrev main_call22_v0 : Ref sig .tc := ⟨.hbm, 241, rfl⟩
abbrev main_call22_v1 : Ref sig .tc := ⟨.hbm, 242, rfl⟩
abbrev main_v132 : Ref sig .tc := ⟨.hbm, 243, rfl⟩
abbrev main_cst_68 : Ref sig .tc := ⟨.hbm, 244, rfl⟩
abbrev main_call23_v0 : Ref sig .tc := ⟨.hbm, 245, rfl⟩
abbrev main_call23_v1 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_v136 : Ref sig .tc := ⟨.hbm, 250, rfl⟩
abbrev main_c_69 : Ref sig .tc := ⟨.hbm, 251, rfl⟩
abbrev main_call24_v0 : Ref sig .tc := ⟨.hbm, 252, rfl⟩
abbrev main_call24_v1 : Ref sig .tc := ⟨.hbm, 253, rfl⟩
abbrev main_v137 : Ref sig .tc := ⟨.hbm, 254, rfl⟩
abbrev main_c_70 : Ref sig .tc := ⟨.hbm, 255, rfl⟩
abbrev main_v138 : Ref sig .tc := ⟨.hbm, 256, rfl⟩
abbrev main_c_71 : Ref sig .tc := ⟨.hbm, 257, rfl⟩
abbrev main_call25_v0 : Ref sig .tc := ⟨.hbm, 258, rfl⟩
abbrev main_v139 : Ref sig .tc := ⟨.hbm, 259, rfl⟩
abbrev main_v140 : Ref sig .tc := ⟨.hbm, 260, rfl⟩
abbrev main_cst_72 : Ref sig .tc := ⟨.hbm, 261, rfl⟩
abbrev main_v141 : Ref sig .tc := ⟨.hbm, 262, rfl⟩
abbrev main_c_73 : Ref sig .tc := ⟨.hbm, 263, rfl⟩
abbrev main_v142 : Ref sig .tc := ⟨.hbm, 264, rfl⟩
abbrev main_c_74 : Ref sig .tc := ⟨.hbm, 265, rfl⟩
abbrev main_v143 : Ref sig .tc := ⟨.hbm, 266, rfl⟩
abbrev main_cst_75 : Ref sig .tc := ⟨.hbm, 267, rfl⟩
abbrev main_call26_v0 : Ref sig .tc := ⟨.hbm, 268, rfl⟩
abbrev main_v144 : Ref sig .tc := ⟨.hbm, 269, rfl⟩
abbrev main_cst_76 : Ref sig .tc := ⟨.hbm, 270, rfl⟩
abbrev main_call27_v0 : Ref sig .tc := ⟨.hbm, 271, rfl⟩
abbrev main_v145 : Ref sig .tc := ⟨.hbm, 272, rfl⟩
abbrev main_v146 : Ref sig .tc := ⟨.hbm, 273, rfl⟩
abbrev main_v147 : Ref sig .tc := ⟨.hbm, 274, rfl⟩
abbrev main_cst_77 : Ref sig .tc := ⟨.hbm, 275, rfl⟩
abbrev main_v148 : Ref sig .tc := ⟨.hbm, 276, rfl⟩
abbrev main_c_78 : Ref sig .tc := ⟨.hbm, 277, rfl⟩
abbrev main_v149 : Ref sig .tc := ⟨.hbm, 278, rfl⟩
abbrev main_c_79 : Ref sig .tc := ⟨.hbm, 279, rfl⟩
abbrev main_v150 : Ref sig .tc := ⟨.hbm, 280, rfl⟩
abbrev main_cst_80 : Ref sig .tc := ⟨.hbm, 281, rfl⟩
abbrev main_call28_v0 : Ref sig .tc := ⟨.hbm, 282, rfl⟩
abbrev main_v151 : Ref sig .tc := ⟨.hbm, 283, rfl⟩
abbrev main_cst_81 : Ref sig .tc := ⟨.hbm, 284, rfl⟩
abbrev main_call29_v0 : Ref sig .tc := ⟨.hbm, 285, rfl⟩
abbrev main_v152 : Ref sig .tc := ⟨.hbm, 286, rfl⟩
abbrev main_v153 : Ref sig .tc := ⟨.hbm, 287, rfl⟩
abbrev main_v154 : Ref sig .tc := ⟨.hbm, 288, rfl⟩
abbrev main_v155 : Ref sig .tc := ⟨.hbm, 289, rfl⟩
abbrev main_v156 : Ref sig .tc := ⟨.hbm, 290, rfl⟩
abbrev main_v157 : Ref sig .tc := ⟨.hbm, 291, rfl⟩
abbrev main_v158 : Ref sig .tc := ⟨.hbm, 292, rfl⟩
abbrev main_v159 : Ref sig .tc := ⟨.hbm, 293, rfl⟩
abbrev main_v160 : Ref sig .tc := ⟨.hbm, 294, rfl⟩
abbrev main_v161_0 : Ref sig .tc := ⟨.hbm, 295, rfl⟩
abbrev main_v161_1 : Ref sig .tc := ⟨.hbm, 296, rfl⟩
abbrev main_v161_2 : Ref sig .tc := ⟨.hbm, 297, rfl⟩
abbrev main_v161_3 : Ref sig .tc := ⟨.hbm, 298, rfl⟩
abbrev main_v161_4 : Ref sig .tc := ⟨.hbm, 299, rfl⟩
abbrev main_v161_5 : Ref sig .tc := ⟨.hbm, 300, rfl⟩
abbrev main_v162 : Ref sig .tc := ⟨.hbm, 301, rfl⟩
abbrev main_v163 : Ref sig .tc := ⟨.hbm, 302, rfl⟩
abbrev main_cst_82 : Ref sig .tc := ⟨.hbm, 303, rfl⟩
abbrev main_v164 : Ref sig .tc := ⟨.hbm, 304, rfl⟩
abbrev main_v165 : Ref sig .tc := ⟨.hbm, 305, rfl⟩
abbrev main_v166 : Ref sig .tc := ⟨.hbm, 306, rfl⟩
abbrev main_cst_83 : Ref sig .tc := ⟨.hbm, 307, rfl⟩
abbrev main_v167 : Ref sig .tc := ⟨.hbm, 308, rfl⟩
abbrev main_v168 : Ref sig .tc := ⟨.hbm, 309, rfl⟩
abbrev main_v169 : Ref sig .tc := ⟨.hbm, 310, rfl⟩
abbrev main_cst_84 : Ref sig .tc := ⟨.hbm, 311, rfl⟩
abbrev main_v170 : Ref sig .tc := ⟨.hbm, 312, rfl⟩
abbrev main_v171 : Ref sig .tc := ⟨.hbm, 313, rfl⟩
abbrev main_v172 : Ref sig .tc := ⟨.hbm, 314, rfl⟩
abbrev main_v173 : Ref sig .tc := ⟨.hbm, 315, rfl⟩
abbrev main_v174 : Ref sig .tc := ⟨.hbm, 316, rfl⟩
abbrev main_c_85 : Ref sig .tc := ⟨.hbm, 317, rfl⟩
abbrev main_call30_v0 : Ref sig .tc := ⟨.hbm, 318, rfl⟩
abbrev main_call30_c : Ref sig .tc := ⟨.hbm, 319, rfl⟩
abbrev main_call30_v1 : Ref sig .tc := ⟨.hbm, 320, rfl⟩
abbrev main_call30_c_0 : Ref sig .tc := ⟨.hbm, 321, rfl⟩
abbrev main_call30_v2 : Ref sig .tc := ⟨.hbm, 322, rfl⟩
abbrev main_call30_v3 : Ref sig .tc := ⟨.hbm, 323, rfl⟩
abbrev main_call30_c_1 : Ref sig .tc := ⟨.hbm, 324, rfl⟩
abbrev main_call30_v4 : Ref sig .tc := ⟨.hbm, 325, rfl⟩
abbrev main_call30_c_2 : Ref sig .tc := ⟨.hbm, 326, rfl⟩
abbrev main_call30_v5 : Ref sig .tc := ⟨.hbm, 327, rfl⟩
abbrev main_call30_c_3 : Ref sig .tc := ⟨.hbm, 328, rfl⟩
abbrev main_call30_v6 : Ref sig .tc := ⟨.hbm, 329, rfl⟩
abbrev main_call30_v7 : Ref sig .tc := ⟨.hbm, 330, rfl⟩
abbrev main_call30_v8 : Ref sig .tc := ⟨.hbm, 331, rfl⟩
abbrev main_call30_v9 : Ref sig .tc := ⟨.hbm, 332, rfl⟩
abbrev main_v175 : Ref sig .tc := ⟨.hbm, 333, rfl⟩
abbrev main_c_86 : Ref sig .tc := ⟨.hbm, 334, rfl⟩
abbrev main_v176 : Ref sig .tc := ⟨.hbm, 335, rfl⟩
abbrev main_c_87 : Ref sig .tc := ⟨.hbm, 336, rfl⟩
abbrev main_v177 : Ref sig .tc := ⟨.hbm, 337, rfl⟩
abbrev main_v178 : Ref sig .tc := ⟨.hbm, 338, rfl⟩
abbrev main_v179 : Ref sig .tc := ⟨.hbm, 339, rfl⟩
abbrev main_v180 : Ref sig .tc := ⟨.hbm, 340, rfl⟩
abbrev main_v181 : Ref sig .tc := ⟨.hbm, 341, rfl⟩
abbrev main_v182 : Ref sig .tc := ⟨.hbm, 342, rfl⟩
abbrev main_v183 : Ref sig .tc := ⟨.hbm, 343, rfl⟩
abbrev main_v184 : Ref sig .tc := ⟨.hbm, 344, rfl⟩
abbrev cc0_stg6_0 : Ref sig .tc := ⟨.vmem, 0, rfl⟩
abbrev cc0_stg7_0 : Ref sig .tc := ⟨.vmem, 1, rfl⟩
abbrev cc0_stg8_0 : Ref sig .tc := ⟨.vmem, 2, rfl⟩
abbrev cc0_stg9_0 : Ref sig .tc := ⟨.vmem, 3, rfl⟩
abbrev cc0_stg10_0 : Ref sig .tc := ⟨.vmem, 4, rfl⟩
abbrev cc0_stg11_0 : Ref sig .tc := ⟨.vmem, 5, rfl⟩
abbrev cc0_stg12_0 : Ref sig .tc := ⟨.vmem, 6, rfl⟩
abbrev cc0_stg13_0 : Ref sig .tc := ⟨.vmem, 7, rfl⟩
abbrev cc0_stg14_0 : Ref sig .tc := ⟨.vmem, 8, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg5_0 : Ref sig .tc := ⟨.smem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x15488 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S15488x7424 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x7424 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6144x7424 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6144x15488 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S15488x7424 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6144x15488 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S15488x7424 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6144x7424 .fp8e5m2 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Tile.lean ====
/-
  One tile of a quantiser, at any array shape.

  A quantiser walks its block in tiles of 32 rows by 128 columns. A tile's entry is multiplied by the
  inverse scale and clipped to the format's range (`code`), and its magnitudes are folded into a running
  maximum of 16 rows by 128 columns (`fold16`, `carry`). A maximum is described here by its upper bounds:
  the fold is at most `b` exactly when every magnitude folded into it is (`fold16_le`, `carry_le`), so the
  order the tiles are folded in never enters (`spread`).
-/
module

public import Idealize.ShloMosaic.Lib.Pipeline.ValueKit
public import Idealize.ShloMosaic.Lib.Pipeline.ReadBack
public import Idealize.ShloMosaic.Lib.ValueIdxCore

@[expose] public section

set_option maxRecDepth 16384

noncomputable section

open Idealize.ShloMosaic Idealize.ShloMosaic.TcCoe

namespace Cert.Proof

variable {F : FTy → Type} [FloatOps F]

/-- The shape of an `m` by `n` array. -/
abbrev Sh2 (m n : ℕ) : Shape := ⟨2, ![m, n]⟩

/-- The one entry of a one-element vector. -/
abbrev only {α : Type} (x : (⟨1, ![1]⟩ : Shape).Idx → α) : α := x (ix1 (0 : Fin 1))

theorem only_eq {α : Type} (x : (⟨1, ![1]⟩ : Shape).Idx → α) (j : (⟨1, ![1]⟩ : Shape).Idx) : x j = only x :=
  congrArg x (funext fun a => Fin.ext (by
    match a with
    | ⟨0, h⟩ => exact Nat.lt_one_iff.mp (j ⟨0, h⟩).isLt))

theorem bf16_lt_f32 : FTy.bf16.bits < FTy.f32.bits := by decide

/-- One code: the entry times the inverse scale, clipped between the two bounds, in the format `ψ`. -/
def code {ψ : FTy} (h : ψ.bits < FTy.bf16.bits) (lo hi : BitVec 32) (s : F .f32) (v : F .bf16) : F ψ :=
  FloatOps.truncf ψ h
    (FloatOps.minimumf (Scalar.truncf .bf16 bf16_lt_f32 (Scalar.ofBits .f32 hi))
      (FloatOps.maximumf (Scalar.truncf .bf16 bf16_lt_f32 (Scalar.ofBits .f32 lo))
        (FloatOps.mulf v (Scalar.truncf .bf16 bf16_lt_f32 s))))

/-- A 32-row tile's magnitudes folded to 16 rows. -/
def fold16 (v : FVec F (Sh2 32 128) .bf16) (h0 : (Sh2 32 128).Slices ![0, 0] (Sh2 16 128))
    (h1 : (Sh2 32 128).Slices ![16, 0] (Sh2 16 128)) : FVec F (Sh2 16 128) .bf16 :=
  maximumf (extractStridedSlice (Sh2 16 128) ![0, 0] (absf v) h0)
    (extractStridedSlice (Sh2 16 128) ![16, 0] (absf v) h1)

/-- The running maximum after the first `n` of the vectors `T`. -/
def carry {s : Shape} (T : ℕ → FVec F s .bf16) (acc : FVec F s .bf16) : ℕ → FVec F s .bf16
  | 0 => acc
  | n + 1 => maximumf (carry T acc n) (T n)

/-- The magnitude of entry `(r, c)` is at most `b`, where `(r, c)` is an entry of the array. -/
def Bounded {M N : ℕ} (X : (Sh2 M N).Idx → EReal) (b : EReal) (r c : ℕ) : Prop :=
  ∀ (hr : r < M) (hc : c < N), max (X (ix2 ⟨r, hr⟩ ⟨c, hc⟩)) (-(X (ix2 ⟨r, hr⟩ ⟨c, hc⟩))) ≤ b

/-- The code of an entry, in exact arithmetic: a product, clipped. -/
theorem code_ideal {ψ : FTy} (h : ψ.bits < FTy.bf16.bits) (lo hi : BitVec 32) (s v : EReal) :
    code (F := Ideal) h lo hi s v
      = min (Scalar.ofBits (F := Ideal) .f32 hi) (max (Scalar.ofBits (F := Ideal) .f32 lo) (v * s)) := rfl

/-- A running maximum is at most `b` when what it started from is and each vector met is. -/
theorem carry_le {s : Shape} (T : ℕ → FVec Ideal s .bf16) (acc : FVec Ideal s .bf16) (y : s.Idx) (b : EReal) :
    ∀ n, (carry T acc n y : EReal) ≤ b ↔ (acc y : EReal) ≤ b ∧ ∀ j < n, (T j y : EReal) ≤ b
  | 0 => by simp [carry]
  | n + 1 => by
    have e : (carry T acc (n + 1) y : EReal) = max (carry T acc n y : EReal) (T n y : EReal) := rfl
    rw [e, max_le_iff, carry_le T acc y b n]
    constructor
    · rintro ⟨⟨h0, h1⟩, h2⟩
      refine ⟨h0, fun j hj => ?_⟩
      rcases Nat.lt_succ_iff_lt_or_eq.mp hj with hj | rfl
      · exact h1 j hj
      · exact h2
    · rintro ⟨h0, h1⟩
      exact ⟨⟨h0, fun j hj => h1 j (Nat.lt_succ_of_lt hj)⟩, h1 n (Nat.lt_succ_self n)⟩

/-- The entries of an array that the tile at the offsets `off` loads. -/
def loaded {M N : ℕ} (X : (Sh2 M N).Idx → F .bf16) (off : Fin 2 → ℕ)
    (inb : ∀ a, off a + (Sh2 32 128).size a ≤ (Sh2 M N).size a) : FVec F (Sh2 32 128) .bf16 :=
  fun x => X ((Rect.unit (s := Sh2 M N) off (Sh2 32 128).size inb).toLoadRect.idx x)

/-- The tile of an array at the offsets `off`. -/
def tile {M N : ℕ} (X : (Sh2 M N).Idx → F .bf16) (off : Fin 2 → ℕ)
    (inb : ∀ a, off a + (Sh2 32 128).size a ≤ (Sh2 M N).size a) : FVec F (Sh2 32 128) .bf16 :=
  shapeCast (Sh2 32 128) (loaded X off inb) rfl

/-- A tile is what was loaded: casting it to its own shape changes nothing. -/
theorem tile_eq_loaded {M N : ℕ} (X : (Sh2 M N).Idx → F .bf16) (off : Fin 2 → ℕ)
    (inb : ∀ a, off a + (Sh2 32 128).size a ≤ (Sh2 M N).size a) : tile X off inb = loaded X off inb :=
  shapeCast_self _ _

theorem tile_apply {M N : ℕ} (X : (Sh2 M N).Idx → F .bf16) (off : Fin 2 → ℕ)
    (inb : ∀ a, off a + (Sh2 32 128).size a ≤ (Sh2 M N).size a) (r : Fin 32) (z : Fin 128)
    (h0 : off 0 + r.val < M) (h1 : off 1 + z.val < N) :
    tile X off inb (ix2 r z) = X (ix2 ⟨off 0 + r.val, h0⟩ ⟨off 1 + z.val, h1⟩) := by
  rw [tile_eq_loaded]
  refine congrArg X (funext fun a => Fin.ext ?_)
  match a with
  | ⟨0, _⟩ => exact congrArg (off 0 + ·) (Nat.one_mul r.val)
  | ⟨1, _⟩ => exact congrArg (off 1 + ·) (Nat.one_mul z.val)

/-- The fold of the tile at `off` of an array is at most `b` when the two entries it folds are. -/
theorem fold16_le {M N : ℕ} (X : (Sh2 M N).Idx → Ideal .bf16) (off : Fin 2 → ℕ)
    (inb : ∀ a, off a + (Sh2 32 128).size a ≤ (Sh2 M N).size a) (h0 h1) (y : Fin 16) (z : Fin 128) (b : EReal) :
    (fold16 (F := Ideal) (tile X off inb) h0 h1 (ix2 y z) : EReal) ≤ b
      ↔ Bounded X b (off 0 + y.val) (off 1 + z.val) ∧ Bounded X b (off 0 + 16 + y.val) (off 1 + z.val) := by
  have i0 : off 0 + 32 ≤ M := inb 0
  have i1 : off 1 + 128 ≤ N := inb 1
  have e0 : extractStridedSlice (Sh2 16 128) ![0, 0] (absf (tile X off inb)) h0 (ix2 y z)
      = FloatOps.absf (X (ix2 ⟨off 0 + y.val, by omega⟩ ⟨off 1 + z.val, by omega⟩)) := by
    rw [← tile_apply X off inb ⟨y.val, by omega⟩ z (by show off 0 + y.val < M; omega) (by omega)]
    refine congrArg (fun j => FloatOps.absf (tile X off inb j)) (funext fun a => Fin.ext ?_)
    match a with
    | ⟨0, _⟩ => exact Nat.zero_add y.val
    | ⟨1, _⟩ => exact Nat.zero_add z.val
  have e1 : extractStridedSlice (Sh2 16 128) ![16, 0] (absf (tile X off inb)) h1 (ix2 y z)
      = FloatOps.absf (X (ix2 ⟨off 0 + (16 + y.val), by omega⟩ ⟨off 1 + z.val, by omega⟩)) := by
    rw [← tile_apply X off inb ⟨16 + y.val, by omega⟩ z (by show off 0 + (16 + y.val) < M; omega) (by omega)]
    refine congrArg (fun j => FloatOps.absf (tile X off inb j)) (funext fun a => Fin.ext ?_)
    match a with
    | ⟨0, _⟩ => rfl
    | ⟨1, _⟩ => exact Nat.zero_add z.val
  unfold fold16
  show max (extractStridedSlice (Sh2 16 128) ![0, 0] (absf (tile X off inb)) h0 (ix2 y z) : EReal)
    (extractStridedSlice (Sh2 16 128) ![16, 0] (absf (tile X off inb)) h1 (ix2 y z) : EReal) ≤ b ↔ _
  rw [e0, e1, max_le_iff]
  have a : off 0 + (16 + y.val) = off 0 + 16 + y.val := by omega
  constructor
  · rintro ⟨p, q⟩
    refine ⟨fun _ _ => p, fun hr hc => ?_⟩
    simp only [← a]
    exact q
  · rintro ⟨p, q⟩
    refine ⟨p _ _, ?_⟩
    have q := q (by omega) (by omega)
    simp only [← a] at q
    exact q

/-- Blocks of `32 * K` rows, met one after the other, hold every entry of an array of `T` of them: the running
    maximum of every lane is at most `b` exactly when every magnitude of the array is. -/
theorem spread {M N T K C : ℕ} (X : (Sh2 M N).Idx → EReal) (b : EReal) (hM : M = T * (32 * K)) (hN : N = 128 * C) :
    (∀ (y : Fin 16) (z : Fin 128), ∀ t < T, ∀ k < K, ∀ j < C,
        Bounded X b (32 * K * t + (32 * k + y.val)) (128 * j + z.val)
        ∧ Bounded X b (32 * K * t + (32 * k + 16 + y.val)) (128 * j + z.val))
      ↔ ∀ i : (Sh2 M N).Idx, max (X i) (-(X i)) ≤ b := by
  constructor
  · intro h i
    have hr : (i 0).val < M := (i 0).isLt
    have hc : (i 1).val < N := (i 1).isLt
    have hK : 0 < 32 * K := by
      rcases Nat.eq_zero_or_pos K with rfl | hK
      · omega
      · omega
    obtain ⟨t, r, hr', hrt⟩ : ∃ t r, r < 32 * K ∧ (i 0).val = 32 * K * t + r :=
      ⟨(i 0).val / (32 * K), (i 0).val % (32 * K), Nat.mod_lt _ hK, (Nat.div_add_mod _ _).symm⟩
    have ht : t < T := by
      by_contra hge
      have : 32 * K * T ≤ 32 * K * t := Nat.mul_le_mul_left _ (Nat.le_of_not_lt hge)
      rw [Nat.mul_comm T] at hM
      omega
    have key := h ⟨r % 16, by omega⟩ ⟨(i 1).val % 128, by omega⟩ t ht (r / 32) (by omega) ((i 1).val / 128) (by omega)
    have ec : 128 * ((i 1).val / 128) + (i 1).val % 128 = (i 1).val := by omega
    rw [ValueIdx.eq_ix2 i]
    rcases Nat.lt_or_ge (r % 32) 16 with hlt | hge
    · have er : 32 * K * t + (32 * (r / 32) + r % 16) = (i 0).val := by omega
      have := key.1 (by show 32 * K * t + (32 * (r / 32) + r % 16) < M; omega) (by show 128 * ((i 1).val / 128) + (i 1).val % 128 < N; omega)
      simp only [er, ec] at this
      exact this
    · have er : 32 * K * t + (32 * (r / 32) + 16 + r % 16) = (i 0).val := by omega
      have := key.2 (by show 32 * K * t + (32 * (r / 32) + 16 + r % 16) < M; omega) (by show 128 * ((i 1).val / 128) + (i 1).val % 128 < N; omega)
      simp only [er, ec] at this
      exact this
  · intro h y z t _ k _ j _
    exact ⟨fun _ _ => h _, fun _ _ => h _⟩

/-! ## From one tile to the whole grid -/

/-- What every piece of one trip satisfies, every piece of the first `n` trips satisfies. -/
theorem pieces_of_trips {α : Type} (P : α → Prop) (K : ℕ) (L T : ℕ → List α) (h0 : L 0 = [])
    (hs : ∀ n < K, L (n + 1) = T n ++ L n) (hT : ∀ n < K, ∀ p ∈ T n, P p) : ∀ n ≤ K, ∀ p ∈ L n, P p
  | 0, _, p, hp => absurd (h0 ▸ hp) List.not_mem_nil
  | n + 1, hn, p, hp => by
    rw [hs n hn] at hp
    rcases List.mem_append.mp hp with hp | hp
    · exact hT n hn p hp
    · exact pieces_of_trips P K L T h0 hs hT n (Nat.le_of_succ_le hn) p hp

/-- The bounds of the magnitudes that `n` trips, of `C` tiles each, fold into lane `(y, z)`. -/
def TripBound {M N : ℕ} (C : ℕ) (X : (Sh2 M N).Idx → EReal) (b : EReal) (y z n : ℕ) : Prop :=
  ∀ k < n, ∀ j < C, Bounded X b (32 * k + y) (128 * j + z) ∧ Bounded X b (32 * k + 16 + y) (128 * j + z)

/-- The carry of a block's loop, met trip by trip from zero, is at most `b` exactly when zero and the magnitudes
    met so far are. -/
theorem loop_le {M N C K : ℕ} (X : (Sh2 M N).Idx → Ideal .bf16) (b : EReal) (y : Fin 16) (z : Fin 128)
    (off : Fin K → Fin C → Fin 2 → ℕ) (inb : ∀ k j a, off k j a + (Sh2 32 128).size a ≤ (Sh2 M N).size a)
    (hoff : ∀ k j, off k j 0 = 32 * k.val ∧ off k j 1 = 128 * j.val) (s0 s1)
    (A : ℕ → FVec Ideal (Sh2 16 128) .bf16) (h0 : (A 0 (ix2 y z) : EReal) = 0)
    (hs : ∀ n (hn : n < K), A (n + 1) = carry (fun j => if h : j < C then
        fold16 (tile X (off ⟨n, hn⟩ ⟨j, h⟩) (inb ⟨n, hn⟩ ⟨j, h⟩)) s0 s1 else A n) (A n) C) :
    ∀ n ≤ K, ((A n (ix2 y z) : EReal) ≤ b ↔ 0 ≤ b ∧ TripBound C X b y.val z.val n)
  | 0, _ => by rw [h0]; simp [TripBound]
  | n + 1, hn => by
    rw [hs n hn, carry_le, loop_le X b y z off inb hoff s0 s1 A h0 hs n (Nat.le_of_succ_le hn)]
    have tl : ∀ j < C, (((if h : j < C then
          fold16 (tile X (off ⟨n, hn⟩ ⟨j, h⟩) (inb ⟨n, hn⟩ ⟨j, h⟩)) s0 s1 else A n) (ix2 y z) : EReal) ≤ b
        ↔ Bounded X b (32 * n + y.val) (128 * j + z.val) ∧ Bounded X b (32 * n + 16 + y.val) (128 * j + z.val)) := by
      intro j hj
      rw [dif_pos hj, fold16_le, (hoff ⟨n, hn⟩ ⟨j, hj⟩).1, (hoff ⟨n, hn⟩ ⟨j, hj⟩).2]
    constructor
    · rintro ⟨⟨h0, h1⟩, h2⟩
      refine ⟨h0, fun k hk j hj => ?_⟩
      rcases Nat.lt_succ_iff_lt_or_eq.mp hk with hk | rfl
      · exact h1 k hk j hj
      · exact (tl j hj).mp (h2 j hj)
    · rintro ⟨h0, h1⟩
      exact ⟨⟨h0, fun k hk => h1 k (Nat.lt_succ_of_lt hk)⟩, fun j hj => (tl j hj).mpr (h1 n (Nat.lt_succ_self n) j hj)⟩

/-- The grid's maximum array, started at its first block and folded at every later one, is at most `b` in lane
    `(y, z)` exactly when zero is and so is every magnitude the blocks so far fold into that lane. -/
theorem grid_le {G : ℕ} (b : EReal) (O : (n : ℕ) → n < G → EReal) (B : Fin G → Prop)
    (hA : ∀ h, O 0 h ≤ b ↔ 0 ≤ b ∧ B ⟨0, h⟩)
    (hB : ∀ n h, O (n + 1) h ≤ b ↔ O n (Nat.lt_of_succ_lt h) ≤ b ∧ 0 ≤ b ∧ B ⟨n + 1, h⟩) :
    ∀ n hn, O n hn ≤ b ↔ 0 ≤ b ∧ ∀ t, ∀ ht : t < G, t ≤ n → B ⟨t, ht⟩
  | 0, hn => by
    rw [hA]
    refine and_congr_right fun _ => ?_
    exact ⟨fun h t ht hle => by obtain rfl := Nat.le_zero.mp hle; exact h, fun h => h 0 hn (le_refl _)⟩
  | n + 1, hn => by
    rw [hB, grid_le b O B hA hB n]
    constructor
    · rintro ⟨⟨h0, h1⟩, -, h2⟩
      refine ⟨h0, fun t ht hle => ?_⟩
      rcases Nat.le_succ_iff.mp hle with hle | rfl
      · exact h1 t ht hle
      · exact h2
    · rintro ⟨h0, h1⟩
      exact ⟨⟨h0, fun t ht hle => h1 t ht (Nat.le_succ_of_le hle)⟩, h0, h1 (n + 1) hn (le_refl _)⟩

/-- The bounds of block `t`'s magnitudes, as entries of the whole array. -/
theorem tripBound_block {R M N K C : ℕ} (x : (Sh2 R N).Idx → EReal) (X : (Sh2 M N).Idx → EReal) (t : ℕ)
    (hR : R = 32 * K) (hM : R * t + R ≤ M)
    (hx : ∀ (r : Fin R) (c : Fin N) (h : R * t + r.val < M), x (ix2 r c) = X (ix2 ⟨R * t + r.val, h⟩ c))
    (b : EReal) (y : Fin 16) (z : ℕ) :
    TripBound C x b y.val z K ↔ ∀ k < K, ∀ j < C,
      Bounded X b (R * t + (32 * k + y.val)) (128 * j + z) ∧ Bounded X b (R * t + (32 * k + 16 + y.val)) (128 * j + z) := by
  have e : ∀ r w, r < R → (Bounded x b r w ↔ Bounded X b (R * t + r) w) := by
    intro r w hr
    constructor
    · intro h hr' hw
      have := h hr hw
      rw [hx ⟨r, hr⟩ ⟨w, hw⟩ hr'] at this
      exact this
    · intro h hr' hw
      rw [hx ⟨r, hr'⟩ ⟨w, hw⟩ (by show R * t + r < M; omega)]
      exact h _ hw
  exact forall₂_congr fun k hk => forall₂_congr fun j hj => and_congr (e _ _ (by omega)) (e _ _ (by omega))

/-- After the grid's last block, every lane of the maximum array is at most `b` exactly when zero is and so is every
    magnitude of the array. -/
theorem amax_le_of_grid {R M N T K C : ℕ} (X : (Sh2 M N).Idx → EReal) (x : Fin T → (Sh2 R N).Idx → EReal)
    (hR : R = 32 * K) (hM : M = T * R) (hN : N = 128 * C) (hT : 0 < T)
    (hx : ∀ (t : Fin T) (r : Fin R) (c : Fin N) (h : R * t.val + r.val < M), x t (ix2 r c) = X (ix2 ⟨R * t.val + r.val, h⟩ c))
    (b : EReal) (A : (Sh2 16 128).Idx → EReal)
    (hA : ∀ (y : Fin 16) (z : Fin 128), A (ix2 y z) ≤ b
      ↔ 0 ≤ b ∧ ∀ t, ∀ ht : t < T, t ≤ T - 1 → TripBound C (x ⟨t, ht⟩) b y.val z.val K) :
    (∀ (y : Fin 16) (z : Fin 128), A (ix2 y z) ≤ b) ↔ 0 ≤ b ∧ ∀ i : (Sh2 M N).Idx, max (X i) (-(X i)) ≤ b := by
  have blk : ∀ (y : Fin 16) (z : Fin 128) t (ht : t < T), TripBound C (x ⟨t, ht⟩) b y.val z.val K ↔ ∀ k < K, ∀ j < C,
      Bounded X b (32 * K * t + (32 * k + y.val)) (128 * j + z.val)
      ∧ Bounded X b (32 * K * t + (32 * k + 16 + y.val)) (128 * j + z.val) := by
    intro y z t ht
    subst hR
    refine tripBound_block (x ⟨t, ht⟩) X t rfl ?_ (hx ⟨t, ht⟩) b y z.val
    have : 32 * K * (t + 1) ≤ 32 * K * T := Nat.mul_le_mul_left _ ht
    rw [Nat.mul_succ] at this
    rw [hM, Nat.mul_comm T]
    exact this
  rw [← spread (T := T) (K := K) (C := C) X b (hR ▸ hM) hN]
  constructor
  · intro h
    exact ⟨((hA 0 0).mp (h 0 0)).1, fun y z t ht => (blk y z t ht).mp (((hA y z).mp (h y z)).2 t ht (by omega))⟩
  · rintro ⟨h0, h1⟩ y z
    exact (hA y z).mpr ⟨h0, fun t ht _ => (blk y z t ht).mpr (h1 y z t ht)⟩

end Cert.Proof
end
end
-- ==== Proof.Scale.lean ====
/-
  The delayed scale: what the kernel's host code computes from one row of the history of largest magnitudes.
-/
module

public import proofs.«01_k».proof.Proof.Gen.KernelIdeal
public import proofs.«01_k».proof.Proof.Tile
public import Idealize.ShloMosaic.Lib.IdealHost

@[expose] public section

noncomputable section

open Idealize.ShloMosaic Idealize.ShloMosaic.TcCoe Idealize.SL.Sem

namespace Cert.Proof.Scale

open Cert.KernelIdeal Cert.KernelIdeal.Gen

/-- The largest entry of one row of the history. -/
def rowMax (off : Fin 2 → Nat) (hs : S3x16.Slices off S1x16) (h : FVec Ideal S3x16 .f32) : FVec Ideal S_ .f32 :=
  Host.reduce FloatOps.maximumf (shapeCast S16 (extractStridedSlice S1x16 off h hs) shapeCasts_S1x16_S16)
    (constant S_ .f32 0xFF800000#32) reducesTo_S16_S_d0 h_S_

/-- How many of the powers of two in a table a number's absolute value reaches. -/
def reached (steps : FVec Ideal S255 .f32) (v : FVec Ideal S_ .f32) : IVec S_ 32 :=
  Host.reduce IntOp.addi
    (extui 32 (cmpf .oge (broadcastInDim S255 ![] bcast_S_S255 (Host.absf v)) steps) natLt_1_32)
    (constantI S_ 32 0#32) reducesTo_S255_S_d0 h_S_

/-- The exponent of `a * c`: zero when `a` is zero, or when the number reaches none of the powers or all of them. -/
def exponent (steps : FVec Ideal S255 .f32) (c : BitVec 32) (a : FVec Ideal S_ .f32) : IVec S_ 32 :=
  select (cmpf .oeq a (constant S_ .f32 0x00000000#32)) (constantI S_ 32 0#32)
    (select (ori (cmpi .eq (reached steps (mulf a (constant S_ .f32 c))) (constantI S_ 32 0#32))
        (cmpi .eq (reached steps (mulf a (constant S_ .f32 c))) (constantI S_ 32 255#32)))
      (constantI S_ 32 0#32) (subi (reached steps (mulf a (constant S_ .f32 c))) (constantI S_ 32 126#32)))

/-- Two to an exponent, by its bits. -/
def two (e : IVec S_ 32) : FVec Ideal S_ .f32 :=
  bitcastToFloat .f32 (Host.shli (addi (minsi (constantI S_ 32 128#32) (maxsi (constantI S_ 32 4294967169#32) e))
    (constantI S_ 32 127#32)) (constantI S_ 32 23#32))

/-- The kernel's table: the floats whose biased exponents are 1, 2, …, 255. -/
def steps : FVec Ideal S255 .f32 :=
  bitcastToFloat .f32 (Host.shli (addi (broadcastInDim S255 ![] bcast_S_S255 (constantI S_ 32 1#32)) (iotaInDim S255 32 0))
    (broadcastInDim S255 ![] bcast_S_S255 (constantI S_ 32 23#32)))

end Cert.Proof.Scale
end
-- ==== Proof.Products.lean ====
/-
  The three products of a linear layer's step, and what a block of one is.

  The output multiplies two arrays as they stand (`mulNN`), the gradient of the inputs multiplies by the weights
  transposed (`mulNT`), and the gradient of the weights multiplies by the inputs transposed (`mulTN`). Each is a sum
  over the whole contracted axis; the matrix unit's product read at an entry is that sum.
-/
module

public import proofs.«01_k».proof.Proof.Tile
public import Idealize.ShloMosaic.Lib.IdealHost
public import Idealize.ShloMosaic.Lib.MatmulPlain

@[expose] public section

set_option maxRecDepth 16384

noncomputable section

open Idealize.ShloMosaic Idealize.ShloMosaic.TcCoe

namespace Cert.Proof

/-- A matrix over the extended reals. -/
abbrev Mat (m n : ℕ) := (Sh2 m n).Idx → EReal

/-- The product of two matrices, entry by entry. -/
def mulNN {M K N : ℕ} (a : Mat M K) (b : Mat K N) : Mat M N :=
  fun i => ∑ k : Fin K, a (ix2 (n0 := M) (i 0) k) * b (ix2 (n1 := N) k (i 1))

/-- The product of a matrix with another's transpose, entry by entry. -/
def mulNT {M K N : ℕ} (a : Mat M K) (b : Mat N K) : Mat M N :=
  fun i => ∑ k : Fin K, a (ix2 (n0 := M) (i 0) k) * b (ix2 (n0 := N) (i 1) k)

/-- The product of a matrix's transpose with another, entry by entry. -/
def mulTN {M K N : ℕ} (a : Mat K M) (b : Mat K N) : Mat M N :=
  fun i => ∑ k : Fin K, a (ix2 (n1 := M) k (i 0)) * b (ix2 (n1 := N) k (i 1))

/-- The matrix unit's product of two matrices into zeros. -/
theorem matmul_nn {M K N : ℕ} {φ₁ φ₂ : FTy} (d : DotDims (Sh2 M K) (Sh2 K N) (Sh2 M N)) (hd : d = DotDims.plain M K N)
    (a : FVec Ideal (Sh2 M K) φ₁) (b : FVec Ideal (Sh2 K N) φ₂) (i : (Sh2 M N).Idx) :
    (matmul d none a b (constant (F := Ideal) (Sh2 M N) .f32 0x00000000#32) i : EReal) = mulNN a b i := by
  subst hd
  rw [ValueIdx.eq_ix2 i]
  refine (Ideal.matmul_plain_apply none a b _ _ _).trans ?_
  show Ideal.ofBits .f32 0x00000000#32 + _ = _
  rw [Ideal.ofBits_zero_f32, zero_add]
  rfl

/-- The matrix unit's product with a transpose into zeros. -/
theorem matmul_nt {M K N : ℕ} {φ₁ φ₂ : FTy} (d : DotDims (Sh2 M K) (Sh2 N K) (Sh2 M N)) (hd : d = DotDims.transposedRhs M K N)
    (a : FVec Ideal (Sh2 M K) φ₁) (b : FVec Ideal (Sh2 N K) φ₂) (i : (Sh2 M N).Idx) :
    (matmul d none a b (constant (F := Ideal) (Sh2 M N) .f32 0x00000000#32) i : EReal) = mulNT a b i := by
  subst hd
  rw [ValueIdx.eq_ix2 i]
  refine (Ideal.matmul_transposedRhs_apply none a b _ _ _).trans ?_
  show Ideal.ofBits .f32 0x00000000#32 + _ = _
  rw [Ideal.ofBits_zero_f32, zero_add]
  rfl

/-- The matrix unit's product of a transpose into zeros. -/
theorem matmul_tn {M K N : ℕ} {φ₁ φ₂ : FTy} (d : DotDims (Sh2 K M) (Sh2 K N) (Sh2 M N))
    (hc : d.lhsContracting = [0]) (hr : d.rhsContracting = [0]) (hl : d.lhsNonContracting = [1])
    (hn : d.rhsNonContracting = [1]) (hb : d.lhsBatch = []) (hb' : d.rhsBatch = [])
    (a : FVec Ideal (Sh2 K M) φ₁) (b : FVec Ideal (Sh2 K N) φ₂) (i : (Sh2 M N).Idx) :
    (matmul d none a b (constant (F := Ideal) (Sh2 M N) .f32 0x00000000#32) i : EReal) = mulTN a b i := by
  obtain ⟨_, _, _, _, _, _, wf⟩ := d
  dsimp only at hc hr hl hn hb hb'
  subst hc hr hl hn hb hb'
  refine (Ideal.matmul_apply₁ _ (a := 0) rfl (K := K) rfl a b _ i).trans ?_
  show Ideal.ofBits .f32 0x00000000#32 + _ = _
  rw [Ideal.ofBits_zero_f32, zero_add]
  refine Finset.sum_congr rfl fun k _ => congrArg₂ (· * ·) (congrArg a ?_) (congrArg b ?_)
  · funext x
    match x with
    | ⟨0, _⟩ => rfl
    | ⟨1, _⟩ => rfl
  · funext x
    match x with
    | ⟨0, _⟩ => rfl
    | ⟨1, _⟩ => rfl

end Cert.Proof
end
end
-- ==== Proof.Largest.lean ====
/-
  The largest magnitude of an array: the host's maximum over every axis from minus infinity, and the maximum of lane
  maxima that stand for the array's magnitudes, are the least upper bound of the magnitudes.
-/
module

public import proofs.«01_k».proof.Proof.Tile
public import Idealize.ShloMosaic.Lib.IdealHost

@[expose] public section

noncomputable section

open Idealize.ShloMosaic

namespace Cert.Proof

variable {s t u : Shape} {axes : List (Fin s.rank)}

/-- The host's maximum to a scalar is at most `b` exactly when its start and every entry are. -/
theorem reduce_le (x : s.Idx → EReal) (init : u.Idx → EReal) (h : s.ReducesTo axes t) (hu : 0 < u.numel)
    (ht : t.rank = 0) (j : t.Idx) (b : EReal) :
    (Host.reduce (FloatOps.maximumf (F := Ideal) (φ := .f32)) x init h hu j : EReal) ≤ b
      ↔ init (Shape.Idx.first hu) ≤ b ∧ ∀ i, x i ≤ b := by
  have all : ∀ i : s.Idx, h.drop i = j := fun i => funext fun a => absurd a.isLt (by omega)
  rw [Host.reduce_eq_fold]
  show Finset.fold (max : EReal → EReal → EReal) _ _ _ ≤ b ↔ _
  rw [Finset.fold_max_le]
  exact and_congr_right fun _ => ⟨fun q i => q i (by simp [all]), fun q i _ => q i⟩

/-- The bits of minus infinity. -/
theorem minus_infinity : Ideal.ofBits .f32 0xFF800000#32 = ⊥ := by
  simp [Ideal.ofBits, Ideal.ieee]

/-- The least upper bound of the magnitudes. -/
def largest {ι : Type} (x : ι → EReal) : EReal := ⨆ i, max (x i) (-(x i))

theorem largest_le {ι : Type} (x : ι → EReal) (b : EReal) : largest x ≤ b ↔ ∀ i, max (x i) (-(x i)) ≤ b :=
  iSup_le_iff

/-- A magnitude is not negative. -/
theorem magnitude_nonneg (v : EReal) : 0 ≤ max v (-v) := by
  rcases le_total 0 v with h | h
  · exact h.trans (le_max_left _ _)
  · exact (EReal.neg_nonneg.mpr h).trans (le_max_right _ _)

/-- Renaming the entries leaves the largest magnitude. -/
theorem largest_shapeCast {s t : Shape} (x : s.Idx → EReal) (h : s.ShapeCasts t) :
    largest (shapeCast t x h) = largest x :=
  (Shape.reshapeEquiv h).iSup_comp (g := fun i => max (x i) (-(x i)))

/-- The host's maximum of the magnitudes. -/
theorem reduce_magnitudes (x : s.Idx → EReal) (h : s.ReducesTo axes t) (hu : 0 < u.numel) (ht : t.rank = 0) (j : t.Idx) :
    (Host.reduce (FloatOps.maximumf (F := Ideal) (φ := .f32)) (fun i => max (x i) (-(x i)))
      (constant (F := Ideal) u .f32 0xFF800000#32) h hu j : EReal) = largest x := by
  refine eq_of_forall_ge_iff fun b => ?_
  rw [reduce_le _ _ h hu ht, largest_le]
  have e : (constant (F := Ideal) u .f32 0xFF800000#32 (Shape.Idx.first hu) : EReal) = ⊥ := minus_infinity
  rw [e]
  exact and_iff_right bot_le

/-- The host's maximum of lane maxima that bound what the array's magnitudes bound. -/
theorem reduce_lanes {M N : ℕ} {ι : Type} [Inhabited ι] (l : (Sh2 M N).Idx → EReal) (x : ι → EReal)
    (hl : ∀ b : EReal, (∀ (y : Fin M) (z : Fin N), l (ix2 y z) ≤ b) ↔ 0 ≤ b ∧ ∀ i, max (x i) (-(x i)) ≤ b)
    {axes : List (Fin (Sh2 M N).rank)} (h : (Sh2 M N).ReducesTo axes t) (hu : 0 < u.numel) (ht : t.rank = 0) (j : t.Idx) :
    (Host.reduce (FloatOps.maximumf (F := Ideal) (φ := .f32)) l (constant (F := Ideal) u .f32 0xFF800000#32) h hu j : EReal)
      = largest x := by
  refine eq_of_forall_ge_iff fun b => ?_
  rw [reduce_le _ _ h hu ht, largest_le]
  have e : (constant (F := Ideal) u .f32 0xFF800000#32 (Shape.Idx.first hu) : EReal) = ⊥ := minus_infinity
  rw [e, and_iff_right bot_le]
  constructor
  · intro q
    exact ((hl b).1 fun y z => q _).2
  · intro q i
    rw [ValueIdx.eq_ix2 i]
    exact (hl b).2 ⟨(magnitude_nonneg (x default)).trans (q default), q⟩ _ _

end Cert.Proof
end
-- ==== Proof.Answer.lean ====
/-
  The answer: what the step computes of its five arguments, result by result, as one function both programs are
  compared with. Batch and sequence are one axis here.
-/
module

public import proofs.«01_k».proof.Proof.Scale
public import proofs.«01_k».proof.Proof.Products
public import proofs.«01_k».proof.Proof.Largest

@[expose] public section

noncomputable section

open Idealize.ShloMosaic

namespace Cert.Proof.Answer

open Cert.KernelIdeal Cert.KernelIdeal.Gen Cert.Proof.Scale

/-- A number clipped to the range of the format with maximum `hi` and minimum `lo`, after its scaling. -/
def clipped (lo hi : BitVec 32) (s v : EReal) : EReal := min (Ideal.ofBits .f32 hi) (max (Ideal.ofBits .f32 lo) (v * s))

/-- The codes of a whole array. -/
def codes4 {ι : Type} (s : EReal) (x : ι → EReal) : ι → EReal := fun i => clipped 0xC3E00000#32 0x43E00000#32 s (x i)
def codes5 {ι : Type} (s : EReal) (x : ι → EReal) : ι → EReal := fun i => clipped 0xC7600000#32 0x47600000#32 s (x i)

variable (x : FVec Ideal S3x2048x15488 .bf16) (w : FVec Ideal S15488x7424 .bf16) (dy : FVec Ideal S3x2048x7424 .bf16)
  (h : FVec Ideal S3x16 .f32) (n : IVec S_ 32)

/-- The exponents of the three scales. -/
def xExp : IVec S_ 32 := exponent steps 0x3B124925#32 (rowMax ![0, 0] slices_S3x16_S1x16_0_0 h)
def wExp : IVec S_ 32 := exponent steps 0x3B124925#32 (rowMax ![1, 0] slices_S3x16_S1x16_1_0 h)
def dyExp : IVec S_ 32 := exponent steps 0x37924925#32 (rowMax ![2, 0] slices_S3x16_S1x16_2_0 h)

/-- The three scales and their inverses. -/
def xScale : FVec Ideal S_ .f32 := two (xExp h)
def wScale : FVec Ideal S_ .f32 := two (wExp h)
def dyScale : FVec Ideal S_ .f32 := two (dyExp h)
def xInv : FVec Ideal S_ .f32 := two (negi (xExp h))
def wInv : FVec Ideal S_ .f32 := two (negi (wExp h))
def dyInv : FVec Ideal S_ .f32 := two (negi (dyExp h))

/-- The inputs and the incoming gradients with batch and sequence as one axis. -/
def rows : Mat 6144 15488 := shapeCast S6144x15488 x shapeCasts_S3x2048x15488_S6144x15488
def dyRows : Mat 6144 7424 := shapeCast S6144x7424 dy shapeCasts_S3x2048x7424_S6144x7424

/-- A scalar's number. -/
def num (v : FVec Ideal S_ .f32) : EReal := v fun a => a.elim0

def xCodes : Mat 6144 15488 := codes4 (num (xInv h)) (rows x)
def wCodes : Mat 15488 7424 := codes4 (num (wInv h)) w
def dyCodes : Mat 6144 7424 := codes5 (num (dyInv h)) (dyRows dy)

/-- The output, the gradient of the inputs and the gradient of the weights. -/
def y : Mat 6144 7424 := fun i => mulNN (xCodes x h) (wCodes w h) i * (num (xScale h) * num (wScale h))
def dx : Mat 6144 15488 := fun i => mulNT (dyCodes dy h) (wCodes w h) i * (num (dyScale h) * num (wScale h))
def dw : Mat 15488 7424 := fun i => mulTN (xCodes x h) (dyCodes dy h) i * (num (xScale h) * num (dyScale h))

/-- The history's length, as a divisor. -/
def divisor : IVec S_ 32 :=
  select (cmpi .eq (constantI S_ 32 16#32) (constantI S_ 32 0#32)) (constantI S_ 32 1#32) (constantI S_ 32 16#32)

/-- The step counter's remainder by the history's length, with the divisor's sign. -/
def remainder : IVec S_ 32 :=
  select (andi (cmpi .ne (cmpi .slt (Host.remsi n divisor) (constantI S_ 32 0#32)) (cmpi .slt divisor (constantI S_ 32 0#32)))
      (cmpi .ne (Host.remsi n divisor) (constantI S_ 32 0#32)))
    (addi (Host.remsi n divisor) divisor) (Host.remsi n divisor)

/-- The column of the history this step writes. -/
def slot : IVec S_ 32 :=
  select (cmpi .slt (remainder n) (constantI S_ 32 0#32)) (addi (remainder n) (constantI S_ 32 16#32)) (remainder n)

/-- Three arrays of one entry as one array. -/
def three (a b c : FVec Ideal S1 .f32) : FVec Ideal S3 .f32 :=
  concatenate S3 0 [⟨S1, a⟩, ⟨S1, b⟩, ⟨S1, c⟩] concatenates_S1_S1_S1_S3_d0

/-- A scalar as an array of one entry. -/
def one (a : FVec Ideal S_ .f32) : FVec Ideal S1 .f32 := broadcastInDim S1 ![] bcast_S_S1 a

/-- The history with this step's three largest magnitudes written to its column. -/
def history (a b c : FVec Ideal S_ .f32) : FVec Ideal S3x16 .f32 :=
  Host.scatter scatter_S3x16_S1_S3_0_1_1_0 (fun _ b => b) h (broadcastInDim S1 ![] bcast_S_S1 (slot n))
    (three (one a) (one b) (one c))

/-- The largest magnitude of an array, as a scalar. -/
def peak {s : Shape} (v : s.Idx → EReal) : FVec Ideal S_ .f32 := fun _ => largest v

/-- The new history. -/
def newHistory : FVec Ideal S3x16 .f32 := history h n (peak x) (peak w) (peak dy)

end Cert.Proof.Answer
end
-- ==== Proof.KernelScales.lean ====
/-
  What the kernel's host operations before its first launch leave: the three scales, their inverses, and the inputs with
  batch and sequence as one axis.
-/
module

public import proofs.«01_k».proof.Proof.Gen.KernelIdeal.Frame
public import proofs.«01_k».proof.Proof.Answer
public import Idealize.ShloMosaic.Lib.StableHlo.ReadAt

@[expose] public section

noncomputable section

open Idealize.ShloMosaic Idealize.ShloMosaic.TcCoe Idealize.SL.Sem

namespace Cert.Proof.KernelScales

open Cert.KernelIdeal Cert.KernelIdeal.Gen

variable (m : (ℓ : Loc nD τ sig) → Buf (Elt Ideal) ℓ) (ρ : Dev nD → PrngReg) (c : Dev nD)

/-- The five arguments. -/
abbrev argX : FVec Ideal S3x2048x15488 .bf16 := m ((c : Thread nD τ).loc main_arg0)
abbrev argW : FVec Ideal S15488x7424 .bf16 := m ((c : Thread nD τ).loc main_arg1)
abbrev argDy : FVec Ideal S3x2048x7424 .bf16 := m ((c : Thread nD τ).loc main_arg2)
abbrev argH : FVec Ideal S3x16 .f32 := m ((c : Thread nD τ).loc main_arg3)
abbrev argN : IVec S_ 32 := m ((c : Thread nD τ).loc main_arg4)

theorem x_scale : W25 m ρ c (Proc.devRef .tc main_v25) = Answer.xScale (argH m c) := by
  after_reads_simp
  simp -implicitDefEqProofs only [StableHlo.TRef.toBuf, StableHlo.TRef.ofBuf, cast_cast, cast_eq]
  clean_types
  rfl

theorem x_inv : W25 m ρ c (Proc.devRef .tc main_v30) = Answer.xInv (argH m c) := by
  after_reads_simp
  simp -implicitDefEqProofs only [StableHlo.TRef.toBuf, StableHlo.TRef.ofBuf, cast_cast, cast_eq]
  clean_types
  rfl

theorem w_scale : W25 m ρ c (Proc.devRef .tc main_v56) = Answer.wScale (argH m c) := by
  after_reads_simp
  simp -implicitDefEqProofs only [StableHlo.TRef.toBuf, StableHlo.TRef.ofBuf, cast_cast, cast_eq]
  clean_types
  rfl

theorem w_inv : W25 m ρ c (Proc.devRef .tc main_v61) = Answer.wInv (argH m c) := by
  after_reads_simp
  simp -implicitDefEqProofs only [StableHlo.TRef.toBuf, StableHlo.TRef.ofBuf, cast_cast, cast_eq]
  clean_types
  rfl

theorem dy_scale : W25 m ρ c (Proc.devRef .tc main_v87) = Answer.dyScale (argH m c) := by
  after_reads_simp
  simp -implicitDefEqProofs only [StableHlo.TRef.toBuf, StableHlo.TRef.ofBuf, cast_cast, cast_eq]
  clean_types
  rfl

theorem dy_inv : W25 m ρ c (Proc.devRef .tc main_v92) = Answer.dyInv (argH m c) := by
  after_reads_simp
  simp -implicitDefEqProofs only [StableHlo.TRef.toBuf, StableHlo.TRef.ofBuf, cast_cast, cast_eq]
  clean_types
  rfl

theorem x_rows : W25 m ρ c (Proc.devRef .tc main_v93) = Answer.rows (argX m c) := by
  after_reads_simp
  rfl

theorem x_inv_array : W25 m ρ c (Proc.devRef .tc main_v94) = shapeCast S1 (Answer.xInv (argH m c)) shapeCasts_S_S1 := by
  after_reads_simp
  simp -implicitDefEqProofs only [StableHlo.TRef.toBuf, StableHlo.TRef.ofBuf, cast_cast, cast_eq]
  clean_types
  rfl

end Cert.Proof.KernelScales
end
-- ==== Proof.QuantX.lean ====
/-
  The quantiser of the inputs: what its two arrays hold after its 24 blocks of 256 rows.

  One trip of the block's loop stores the codes of 121 tiles (`trip_codes`) and folds their magnitudes into
  the carried maximum (`trip_max`). Over the trips of a block and the blocks of the grid: the codes array
  holds the code of every entry (`codes_eq`), and a lane of the maximum array is at most `b` exactly when
  zero is and every magnitude folded into that lane is (`amax_le`).
-/
module

public import proofs.«01_k».proof.Proof.Gen.KernelIdeal.Frame.Region0
public import proofs.«01_k».proof.Proof.Tile
public import Idealize.ShloMosaic.Lib.IdealHost
public import Idealize.ShloMosaic.Lib.Pipeline.Covers

@[expose] public section

set_option maxRecDepth 16384

noncomputable section

open Idealize.ShloMosaic Idealize.ShloMosaic.TcCoe Idealize.SL.Sem

namespace Cert.Proof.QuantX

open Cert.KernelIdeal Cert.KernelIdeal.Gen
open Idealize.ShloMosaic.Pipeline (Dat Cfg Window)

variable {F : FTy → Type} [FloatOps F]

/-- The code of one entry. -/
abbrev q (s : F .f32) (v : F .bf16) : F .fp8e4m3 := code bitsLt_fp8e4m3_bf16 0xC3E00000#32 0x43E00000#32 s v

/-- The offsets of tile `j` of trip `k`. -/
def off (k : Fin k0_t1_loop.trips) (j : Fin 121) : Fin 2 → ℕ := ![k0_off1 k 0, 128 * j.val]

theorem off_inb : ∀ (k : Fin k0_t1_loop.trips) (j : Fin 121) (a : Fin 2),
    off k j a + S32x128.size a ≤ S256x15488.size a := by decide +kernel

theorem off_eq (k : Fin k0_t1_loop.trips) (j : Fin 121) : off k j 0 = 32 * k.val ∧ off k j 1 = 128 * j.val :=
  ⟨congrFun (k0_off1_eq k) 0, rfl⟩

theorem trips_eq : k0_t1_loop.trips = 8 := by decide +kernel

section Block

variable (c : Dev nD) (i : grid0.Coords) (arg1 : Memref sig .tc .smem S1 .f32) (harg1 : arg1.IsWhole)
  (arg2 : Memref sig .tc .vmem S256x15488 .bf16) (harg2 : arg2.IsWhole)
  (arg3 : Memref sig .tc .vmem S256x15488 .fp8e4m3) (harg3 : arg3.IsWhole)
  (arg4 : Memref sig .tc .vmem S16x128 .f32) (harg4 : arg4.IsWhole)

section Trip

variable (v0 : Elt F .f32) (X : BufTy.Contents (Elt F) arg2.view.ty) (k : Fin k0_t1_loop.trips)
  (acc : FVec F S16x128 .bf16)

/-- Every piece one trip stores is the code of the entries its rectangle names. -/
theorem trip_codes :
    tripL_k0_t1 (F := F) Variants.none c none i arg1 harg1 arg2 harg2 arg3 harg3 arg4 harg4 v0 X k acc
    = (tripL_k0_t1 (F := F) Variants.none c none i arg1 harg1 arg2 harg2 arg3 harg3 arg4 harg4 v0 X k acc).map
        fun p => ⟨p.1, fun x => q v0 (shapeCast p.1.shape (fun x => arg2.view.read (Elt F) X (p.1.emb x)) rfl x)⟩ := by
  sl_kernel_rfl

/-- The carry after one trip: the folds of its tiles met from left to right. -/
theorem trip_max :
    tripR_k0_t1 (F := F) Variants.none c none i arg1 harg1 arg2 harg2 arg3 harg3 arg4 harg4 v0 X k acc
    = carry (fun j => if h : j < 121 then
        fold16 (tile (arg2.view.read (Elt F) X) (off k ⟨j, h⟩) (off_inb k ⟨j, h⟩))
          slices_S32x128_o0_0_S16x128 slices_S32x128_o16_0_S16x128
        else acc) acc 121 := by
  sl_kernel_rfl

end Trip

/-- The state of the block's loop before trip `n`. -/
abbrev st (v0 : Elt F .f32) (X : BufTy.Contents (Elt F) arg2.view.ty) (n : ℕ) :=
  st_k0_t1 (F := F) Variants.none c none i arg1 harg1 arg2 harg2 arg3 harg3 arg4 harg4 v0 X k0_pay3 n

/-- Every piece stored by the first `n` trips is the code of the entries its rectangle names. -/
theorem st_codes (v0 : Elt F .f32) (X : BufTy.Contents (Elt F) arg2.view.ty) :
    ∀ n ≤ k0_t1_loop.trips, ∀ p ∈ (st c i arg1 harg1 arg2 harg2 arg3 harg3 arg4 harg4 v0 X n).2,
      ∀ x : p.1.shape.Idx, p.2 x = q v0 (arg2.view.read (Elt F) X (p.1.emb x)) := by
  refine pieces_of_trips _ _ (fun n => (st c i arg1 harg1 arg2 harg2 arg3 harg3 arg4 harg4 v0 X n).2)
    (fun n => if h : n < k0_t1_loop.trips then
      tripL_k0_t1 Variants.none c none i arg1 harg1 arg2 harg2 arg3 harg3 arg4 harg4 v0 X ⟨n, h⟩
        (st c i arg1 harg1 arg2 harg2 arg3 harg3 arg4 harg4 v0 X n).1 else []) rfl ?_ ?_
  · intro n hn
    rw [dif_pos hn]
    exact congrArg Prod.snd (st_k0_t1_succ Variants.none c none i arg1 harg1 arg2 harg2 arg3 harg3 arg4 harg4 v0 X
      k0_pay3 ⟨n, hn⟩)
  · intro n hn p hp
    rw [dif_pos hn, trip_codes] at hp
    obtain ⟨p', -, rfl⟩ := List.mem_map.mp hp
    intro x
    dsimp only
    rw [shapeCast_self]

/-- The carry before trip `n` is at most `b` exactly when zero and the magnitudes met so far are. -/
theorem st_max (v0 : Elt Ideal .f32) (X : BufTy.Contents (Elt Ideal) arg2.view.ty) (y : Fin 16) (z : Fin 128) (b : EReal) :
    ∀ n ≤ k0_t1_loop.trips,
      (((st (F := Ideal) c i arg1 harg1 arg2 harg2 arg3 harg3 arg4 harg4 v0 X n).1 (ix2 y z) : EReal) ≤ b
      ↔ 0 ≤ b ∧ TripBound 121 (arg2.view.read (Elt Ideal) X) b y.val z.val n) := by
  refine loop_le _ b y z off off_inb off_eq slices_S32x128_o0_0_S16x128 slices_S32x128_o16_0_S16x128
    (fun n => (st (F := Ideal) c i arg1 harg1 arg2 harg2 arg3 harg3 arg4 harg4 v0 X n).1) Ideal.ofBits_zero_bf16 ?_
  intro n hn
  refine (congrArg Prod.fst (st_k0_t1_succ (F := Ideal) Variants.none c none i arg1 harg1 arg2 harg2 arg3 harg3 arg4
    harg4 v0 X k0_pay3 ⟨n, hn⟩)).trans ?_
  exact trip_max c i arg1 harg1 arg2 harg2 arg3 harg3 arg4 harg4 v0 X ⟨n, hn⟩ _

end Block

/-! ## The contents a block leaves -/

section Out

variable (c : Dev nD) (i : grid0.Coords) (arg1 : Memref sig .tc .smem S1 .f32) (harg1 : arg1.IsWhole)
  (arg2 : Memref sig .tc .vmem S256x15488 .bf16) (harg2 : arg2.IsWhole)
  (arg3 : Memref sig .tc .vmem S256x15488 .fp8e4m3) (harg3 : arg3.IsWhole)
  (arg4 : Memref sig .tc .vmem S16x128 .f32) (harg4 : arg4.IsWhole)

/-- What the block reads as its inverse scale. -/
theorem scale_read (x0 : Vec F S1 .f32) (h) :
    View.readAt (Elt F) arg1.view (Rect.unit ![0] S1.size inb_S1_S1_0).toLoadRect (harg1.unread x0) (Shape.Idx.first h)
      = only x0 := by
  rw [View.readAt_apply, harg1.read_unread]
  exact only_eq x0 _

theorem outA_codes (hc0 : cond0_0 i) (x0 : Vec F S1 .f32) (x1 : Vec F S256x15488 .bf16) (y : S256x15488.Idx) :
    out0_A_2 c i arg1 harg1 arg2 harg2 arg3 harg3 arg4 harg4 hc0 x0 x1 y = q (only x0) (x1 y) := by
  unfold out0_A_2
  rw [View.read_writes_junk_eq_canon]
  refine View.canon_apply_of_pieces (fun y => q (only x0) (x1 y)) _ ?_ y
    (cover0_A_2 c i arg1 harg1 arg2 harg2 arg3 harg3 arg4 harg4 hc0 x0 x1 y)
  unfold kernelRun0_A
  dsimp only
  unfold kernelRun0_A.sl.r
  rw [scale_read]
  intro p hp x
  have := st_codes (F := F) c i arg1 harg1 arg2 harg2 arg3 harg3 arg4 harg4 (only x0) (harg2.unread x1) _ (le_refl _) p hp x
  rw [harg2.read_unread] at this
  exact this

theorem outB_codes (hc0 : ¬cond0_0 i) (x0 : Vec F S1 .f32) (x1 : Vec F S256x15488 .bf16) (x3 : Vec F S16x128 .f32)
    (y : S256x15488.Idx) :
    out0_B_2 c i arg1 harg1 arg2 harg2 arg3 harg3 arg4 harg4 hc0 x0 x1 x3 y = q (only x0) (x1 y) := by
  unfold out0_B_2
  rw [View.read_writes_junk_eq_canon]
  refine View.canon_apply_of_pieces (fun y => q (only x0) (x1 y)) _ ?_ y
    (cover0_B_2 c i arg1 harg1 arg2 harg2 arg3 harg3 arg4 harg4 hc0 x0 x1 x3 y)
  unfold kernelRun0_B
  dsimp only
  unfold kernelRun0_B.sl.r
  rw [scale_read]
  intro p hp x
  have := st_codes (F := F) c i arg1 harg1 arg2 harg2 arg3 harg3 arg4 harg4 (only x0) (harg2.unread x1) _ (le_refl _) p hp x
  rw [harg2.read_unread] at this
  exact this

theorem outA_max (hc0 : cond0_0 i) (x0 : Vec Ideal S1 .f32) (x1 : Vec Ideal S256x15488 .bf16) (y : Fin 16) (z : Fin 128) (b : EReal) :
    (out0_A_3 (F := Ideal) c i arg1 harg1 arg2 harg2 arg3 harg3 arg4 harg4 hc0 x0 x1 (ix2 y z) : EReal) ≤ b
      ↔ 0 ≤ b ∧ TripBound 121 x1 b y.val z.val 8 := by
  have h := st_max c i arg1 harg1 arg2 harg2 arg3 harg3 arg4 harg4 (only x0) (harg2.unread x1) y z b _ (le_refl _)
  rw [harg2.read_unread, trips_eq] at h
  unfold out0_A_3
  unfold kernelRun0_A
  dsimp only
  unfold kernelRun0_A.sl.r kernelRun0_A.sl.v8 kernelRun0_A.sl.H3_1
  rw [scale_read]
  rw [View.read_writes_junk_eq_canon, View.canon_cons_unit_zero (by decide), View.readCov_unit_zero _ (by decide)]
  unfold k0_pay6 k0_pay2
  dsimp only
  rw [shapeCast_self]
  show max (Ideal.ofBits .f32 0x00000000#32) _ ≤ b ↔ _
  rw [Ideal.ofBits_zero_f32, max_le_iff]
  exact ⟨fun hh => h.mp hh.2, fun hh => ⟨hh.1, h.mpr hh⟩⟩

theorem outB_max (hc0 : ¬cond0_0 i) (x0 : Vec Ideal S1 .f32) (x1 : Vec Ideal S256x15488 .bf16) (x3 : Vec Ideal S16x128 .f32)
    (y : Fin 16) (z : Fin 128) (b : EReal) :
    (out0_B_3 (F := Ideal) c i arg1 harg1 arg2 harg2 arg3 harg3 arg4 harg4 hc0 x0 x1 x3 (ix2 y z) : EReal) ≤ b
      ↔ (x3 (ix2 y z) : EReal) ≤ b ∧ 0 ≤ b ∧ TripBound 121 x1 b y.val z.val 8 := by
  have h := st_max c i arg1 harg1 arg2 harg2 arg3 harg3 arg4 harg4 (only x0) (harg2.unread x1) y z b _ (le_refl _)
  rw [harg2.read_unread, trips_eq] at h
  unfold out0_B_3
  unfold kernelRun0_B
  dsimp only
  unfold kernelRun0_B.sl.r
  rw [scale_read]
  rw [View.read_writes_junk_eq_canon, View.canon_cons_unit_zero (S := S16x128) (by decide)]
  unfold k0_pay6
  rw [shapeCast_self, View.readAt_eq_ld, harg4.read_unread, View.ld_unit_zero (S := S16x128) (by decide)]
  show max _ _ ≤ b ↔ _
  rw [max_le_iff]
  exact and_congr_right fun _ => h

end Out

/-! ## The two arrays after the grid -/

section Arrays

variable (V : (c : Dev nD) → (b : Ref sig .tc) → Buf (Elt F) ((c : Thread nD τ).loc b)) (c : Dev nD)

/-- The array quantised, the inverse scale it is multiplied by, and the two arrays the grid leaves. -/
abbrev src : (Sh2 6144 15488).Idx → F .bf16 := V c main_v93
abbrev inv : F .f32 := only (V c main_v94 : S1.Idx → F .f32)
abbrev codes : (Sh2 6144 15488).Idx → F .fp8e4m3 := (dat0 V c).arrAt 2 cfg0.N
abbrev amax : (Sh2 16 128).Idx → F .f32 := (dat0 V c).arrAt 3 cfg0.N

/-- The block index of every window at every point. -/
theorem idx : ∀ t : Fin cfg0.N, win0_0.index t = ![0] ∧ win0_1.index t = ![t.val, 0] ∧ win0_2.index t = ![t.val, 0] :=
  (by decide +kernel : ∀ t : Fin grid0.N, _)

/-- Every point's scale is the scale array's one entry. -/
theorem iblk_scale (t : Fin cfg0.N) : iblk0 V c 0 t = V c main_v94 := by
  blk_ext! [iblk0, idx t]

/-- Block `t` of the input array is its rows from `256 * t` on. -/
theorem iblk_x (t : Fin cfg0.N) (r : Fin 256) (z : Fin 15488) (h : 256 * t.val + r.val < 6144) :
    iblk0 V c 1 t (ix2 r z) = src V c (ix2 ⟨256 * t.val + r.val, h⟩ z) := by
  blk_simp [iblk0, idx t]
  refine congrArg (V c main_v93) (funext fun a => Fin.ext ?_)
  match a with
  | ⟨0, _⟩ => blk_simp [idx t]; show t.val * 256 + r.val = 256 * t.val + r.val; omega
  | ⟨1, _⟩ => blk_simp [idx t]

/-- What a point leaves in the codes' block: the code of every entry of its block of the input array. -/
theorem outs_codes (t : Fin cfg0.N) (y : S256x15488.Idx) :
    (outsAt0 V c t.val t.isLt).1 y = q (inv V c) (iblk0 V c 1 t y) := by
  unfold inv
  rw [← iblk_scale V c t]
  by_cases h0 : t.val % 24 = 0
  · rw [outsAt0_A V c t h0]
    dsimp only
    rw [outA_codes]
  · rw [outsAt0_B V c t h0]
    dsimp only
    rw [outB_codes]

/-- After its grid the codes array holds the code of every entry of the input array. -/
theorem codes_eq : codes V c = fun i => q (inv V c) (src V c i) := by
  refine (dat0 V c).arrAt_eq_of_covers 2 _ (by decide +kernel) fun t _ y => ?_
  blk_simp
  rw [after0_2]
  refine (outs_codes V c t y).trans (congrArg (q _) ?_)
  blk_simp [iblk0]
  refine congrArg (V c main_v93) (funext fun a => Fin.ext ?_)
  match a with
  | ⟨0, _⟩ => blk_simp [idx t]
  | ⟨1, _⟩ => blk_simp [idx t]

end Arrays

section Max

variable (V : (c : Dev nD) → (b : Ref sig .tc) → Buf (Elt Ideal) ((c : Thread nD τ).loc b)) (c : Dev nD)

/-- After point `n` a lane of the maximum's block is at most `b` exactly when zero is and so is every magnitude the
    blocks up to `n` fold into it. -/
theorem outs_max (b : EReal) (y : Fin 16) (z : Fin 128) : ∀ (n : ℕ) (hn : n < cfg0.N),
    ((outsAt0 V c n hn).2 (ix2 y z) : EReal) ≤ b
      ↔ 0 ≤ b ∧ ∀ t, ∀ ht : t < cfg0.N, t ≤ n → TripBound 121 (iblk0 V c 1 ⟨t, ht⟩) b y.val z.val 8 := by
  refine grid_le b (fun n hn => (outsAt0 V c n hn).2 (ix2 y z))
    (fun t => TripBound 121 (iblk0 V c 1 t) b y.val z.val 8) ?_ ?_
  · intro hn
    rw [outsAt0_A V c ⟨0, hn⟩ (Nat.zero_mod _)]
    dsimp only
    rw [outA_max]
  · intro n hn
    have hN : n + 1 < 24 := hn
    rw [outsAt0_B V c ⟨n + 1, hn⟩ (by show ¬(n + 1) % 24 = 0; omega)]
    dsimp only
    rw [outB_max]
    simp only [Nat.add_sub_cancel]

/-- The grid's last point. -/
def last : Fin cfg0.N := ⟨23, by decide⟩

/-- After its grid every lane of the maximum array is at most `b` exactly when zero is and so is every magnitude of
    the input array. -/
theorem amax_le (b : EReal) :
    (∀ (y : Fin 16) (z : Fin 128), (amax V c (ix2 y z) : EReal) ≤ b)
      ↔ 0 ≤ b ∧ ∀ i : S6144x15488.Idx, max (src V c i : EReal) (-(src V c i : EReal)) ≤ b := by
  have e : amax V c = (outsAt0 V c last.val last.isLt).2 := by
    refine (dat0 V c).arrAt_eq_of_after_last 3 last (by decide +kernel) _ fun j => ?_
    blk_simp
    rw [after0_3]
  rw [e]
  exact amax_le_of_grid (T := 24) (src V c) (fun t => iblk0 V c 1 t) rfl rfl rfl (by decide)
    (fun t r z h => iblk_x V c t r z h) b _ fun y z => outs_max V c b y z _ last.isLt

end Max

end Cert.Proof.QuantX
end
end
-- ==== Proof.QuantW.lean ====
/-
  The quantiser of the weights: what its two arrays hold after its 44 blocks of 352 rows.

  One trip of the block's loop stores the codes of 58 tiles (`trip_codes`) and folds their magnitudes into
  the carried maximum (`trip_max`). Over the trips of a block and the blocks of the grid: the codes array
  holds the code of every entry (`codes_eq`), and a lane of the maximum array is at most `b` exactly when
  zero is and every magnitude folded into that lane is (`amax_le`).
-/
module

public import proofs.«01_k».proof.Proof.Gen.KernelIdeal.Frame.Region1
public import proofs.«01_k».proof.Proof.Tile
public import Idealize.ShloMosaic.Lib.IdealHost
public import Idealize.ShloMosaic.Lib.Pipeline.Covers

@[expose] public section

set_option maxRecDepth 16384

noncomputable section

open Idealize.ShloMosaic Idealize.ShloMosaic.TcCoe Idealize.SL.Sem

namespace Cert.Proof.QuantW

open Cert.KernelIdeal Cert.KernelIdeal.Gen
open Idealize.ShloMosaic.Pipeline (Dat Cfg Window)

variable {F : FTy → Type} [FloatOps F]

/-- The code of one entry. -/
abbrev q (s : F .f32) (v : F .bf16) : F .fp8e4m3 := code bitsLt_fp8e4m3_bf16 0xC3E00000#32 0x43E00000#32 s v

/-- The offsets of tile `j` of trip `k`. -/
def off (k : Fin k1_t1_loop.trips) (j : Fin 58) : Fin 2 → ℕ := ![k1_off1 k 0, 128 * j.val]

theorem off_inb : ∀ (k : Fin k1_t1_loop.trips) (j : Fin 58) (a : Fin 2),
    off k j a + S32x128.size a ≤ S352x7424.size a := by decide +kernel

theorem off_eq (k : Fin k1_t1_loop.trips) (j : Fin 58) : off k j 0 = 32 * k.val ∧ off k j 1 = 128 * j.val :=
  ⟨congrFun (k1_off1_eq k) 0, rfl⟩

theorem trips_eq : k1_t1_loop.trips = 11 := by decide +kernel

section Block

variable (c : Dev nD) (i : grid1.Coords) (arg1 : Memref sig .tc .smem S1 .f32) (harg1 : arg1.IsWhole)
  (arg2 : Memref sig .tc .vmem S352x7424 .bf16) (harg2 : arg2.IsWhole)
  (arg3 : Memref sig .tc .vmem S352x7424 .fp8e4m3) (harg3 : arg3.IsWhole)
  (arg4 : Memref sig .tc .vmem S16x128 .f32) (harg4 : arg4.IsWhole)

section Trip

variable (v0 : Elt F .f32) (X : BufTy.Contents (Elt F) arg2.view.ty) (k : Fin k1_t1_loop.trips)
  (acc : FVec F S16x128 .bf16)

/-- Every piece one trip stores is the code of the entries its rectangle names. -/
theorem trip_codes :
    tripL_k1_t1 (F := F) Variants.none c none i arg1 harg1 arg2 harg2 arg3 harg3 arg4 harg4 v0 X k acc
    = (tripL_k1_t1 (F := F) Variants.none c none i arg1 harg1 arg2 harg2 arg3 harg3 arg4 harg4 v0 X k acc).map
        fun p => ⟨p.1, fun x => q v0 (arg2.view.read (Elt F) X (p.1.emb x))⟩ := by
  sl_kernel_rfl

/-- The carry after one trip: the folds of its tiles met from left to right. -/
theorem trip_max :
    tripR_k1_t1 (F := F) Variants.none c none i arg1 harg1 arg2 harg2 arg3 harg3 arg4 harg4 v0 X k acc
    = carry (fun j => if h : j < 58 then
        fold16 (tile (arg2.view.read (Elt F) X) (off k ⟨j, h⟩) (off_inb k ⟨j, h⟩))
          slices_S32x128_o0_0_S16x128 slices_S32x128_o16_0_S16x128
        else acc) acc 58 := by
  simp only [tile_eq_loaded]
  sl_kernel_rfl

end Trip

/-- The state of the block's loop before trip `n`. -/
abbrev st (v0 : Elt F .f32) (X : BufTy.Contents (Elt F) arg2.view.ty) (n : ℕ) :=
  st_k1_t1 (F := F) Variants.none c none i arg1 harg1 arg2 harg2 arg3 harg3 arg4 harg4 v0 X k1_pay3 n

/-- Every piece stored by the first `n` trips is the code of the entries its rectangle names. -/
theorem st_codes (v0 : Elt F .f32) (X : BufTy.Contents (Elt F) arg2.view.ty) :
    ∀ n ≤ k1_t1_loop.trips, ∀ p ∈ (st c i arg1 harg1 arg2 harg2 arg3 harg3 arg4 harg4 v0 X n).2,
      ∀ x : p.1.shape.Idx, p.2 x = q v0 (arg2.view.read (Elt F) X (p.1.emb x)) := by
  refine pieces_of_trips _ _ (fun n => (st c i arg1 harg1 arg2 harg2 arg3 harg3 arg4 harg4 v0 X n).2)
    (fun n => if h : n < k1_t1_loop.trips then
      tripL_k1_t1 Variants.none c none i arg1 harg1 arg2 harg2 arg3 harg3 arg4 harg4 v0 X ⟨n, h⟩
        (st c i arg1 harg1 arg2 harg2 arg3 harg3 arg4 harg4 v0 X n).1 else []) rfl ?_ ?_
  · intro n hn
    rw [dif_pos hn]
    exact congrArg Prod.snd (st_k1_t1_succ Variants.none c none i arg1 harg1 arg2 harg2 arg3 harg3 arg4 harg4 v0 X
      k1_pay3 ⟨n, hn⟩)
  · intro n hn p hp
    rw [dif_pos hn, trip_codes] at hp
    obtain ⟨p', -, rfl⟩ := List.mem_map.mp hp
    exact fun x => rfl

/-- The carry before trip `n` is at most `b` exactly when zero and the magnitudes met so far are. -/
theorem st_max (v0 : Elt Ideal .f32) (X : BufTy.Contents (Elt Ideal) arg2.view.ty) (y : Fin 16) (z : Fin 128) (b : EReal) :
    ∀ n ≤ k1_t1_loop.trips,
      (((st (F := Ideal) c i arg1 harg1 arg2 harg2 arg3 harg3 arg4 harg4 v0 X n).1 (ix2 y z) : EReal) ≤ b
      ↔ 0 ≤ b ∧ TripBound 58 (arg2.view.read (Elt Ideal) X) b y.val z.val n) := by
  refine loop_le _ b y z off off_inb off_eq slices_S32x128_o0_0_S16x128 slices_S32x128_o16_0_S16x128
    (fun n => (st (F := Ideal) c i arg1 harg1 arg2 harg2 arg3 harg3 arg4 harg4 v0 X n).1) Ideal.ofBits_zero_bf16 ?_
  intro n hn
  refine (congrArg Prod.fst (st_k1_t1_succ (F := Ideal) Variants.none c none i arg1 harg1 arg2 harg2 arg3 harg3 arg4
    harg4 v0 X k1_pay3 ⟨n, hn⟩)).trans ?_
  exact trip_max c i arg1 harg1 arg2 harg2 arg3 harg3 arg4 harg4 v0 X ⟨n, hn⟩ _

end Block

/-! ## The contents a block leaves -/

section Out

variable (c : Dev nD) (i : grid1.Coords) (arg1 : Memref sig .tc .smem S1 .f32) (harg1 : arg1.IsWhole)
  (arg2 : Memref sig .tc .vmem S352x7424 .bf16) (harg2 : arg2.IsWhole)
  (arg3 : Memref sig .tc .vmem S352x7424 .fp8e4m3) (harg3 : arg3.IsWhole)
  (arg4 : Memref sig .tc .vmem S16x128 .f32) (harg4 : arg4.IsWhole)

/-- What the block reads as its inverse scale. -/
theorem scale_read (x0 : Vec F S1 .f32) (h) :
    View.readAt (Elt F) arg1.view (Rect.unit ![0] S1.size inb_S1_S1_0).toLoadRect (harg1.unread x0) (Shape.Idx.first h)
      = only x0 := by
  rw [View.readAt_apply, harg1.read_unread]
  exact only_eq x0 _

theorem outA_codes (hc0 : cond1_0 i) (x0 : Vec F S1 .f32) (x1 : Vec F S352x7424 .bf16) (y : S352x7424.Idx) :
    out1_A_2 c i arg1 harg1 arg2 harg2 arg3 harg3 arg4 harg4 hc0 x0 x1 y = q (only x0) (x1 y) := by
  unfold out1_A_2
  rw [View.read_writes_junk_eq_canon]
  refine View.canon_apply_of_pieces (fun y => q (only x0) (x1 y)) _ ?_ y
    (cover1_A_2 c i arg1 harg1 arg2 harg2 arg3 harg3 arg4 harg4 hc0 x0 x1 y)
  unfold kernelRun1_A
  dsimp only
  unfold kernelRun1_A.sl.r
  rw [scale_read]
  intro p hp x
  have := st_codes (F := F) c i arg1 harg1 arg2 harg2 arg3 harg3 arg4 harg4 (only x0) (harg2.unread x1) _ (le_refl _) p hp x
  rw [harg2.read_unread] at this
  exact this

theorem outB_codes (hc0 : ¬cond1_0 i) (x0 : Vec F S1 .f32) (x1 : Vec F S352x7424 .bf16) (x3 : Vec F S16x128 .f32)
    (y : S352x7424.Idx) :
    out1_B_2 c i arg1 harg1 arg2 harg2 arg3 harg3 arg4 harg4 hc0 x0 x1 x3 y = q (only x0) (x1 y) := by
  unfold out1_B_2
  rw [View.read_writes_junk_eq_canon]
  refine View.canon_apply_of_pieces (fun y => q (only x0) (x1 y)) _ ?_ y
    (cover1_B_2 c i arg1 harg1 arg2 harg2 arg3 harg3 arg4 harg4 hc0 x0 x1 x3 y)
  unfold kernelRun1_B
  dsimp only
  unfold kernelRun1_B.sl.r
  rw [scale_read]
  intro p hp x
  have := st_codes (F := F) c i arg1 harg1 arg2 harg2 arg3 harg3 arg4 harg4 (only x0) (harg2.unread x1) _ (le_refl _) p hp x
  rw [harg2.read_unread] at this
  exact this

theorem outA_max (hc0 : cond1_0 i) (x0 : Vec Ideal S1 .f32) (x1 : Vec Ideal S352x7424 .bf16) (y : Fin 16) (z : Fin 128) (b : EReal) :
    (out1_A_3 (F := Ideal) c i arg1 harg1 arg2 harg2 arg3 harg3 arg4 harg4 hc0 x0 x1 (ix2 y z) : EReal) ≤ b
      ↔ 0 ≤ b ∧ TripBound 58 x1 b y.val z.val 11 := by
  have h := st_max c i arg1 harg1 arg2 harg2 arg3 harg3 arg4 harg4 (only x0) (harg2.unread x1) y z b _ (le_refl _)
  rw [harg2.read_unread, trips_eq] at h
  unfold out1_A_3
  unfold kernelRun1_A
  dsimp only
  unfold kernelRun1_A.sl.r kernelRun1_A.sl.v8 kernelRun1_A.sl.H3_1
  rw [scale_read]
  rw [View.read_writes_junk_eq_canon, View.canon_cons_unit_zero (by decide), View.readCov_unit_zero _ (by decide)]
  unfold k1_pay6 k1_pay2
  dsimp only
  rw [shapeCast_self]
  show max (Ideal.ofBits .f32 0x00000000#32) _ ≤ b ↔ _
  rw [Ideal.ofBits_zero_f32, max_le_iff]
  exact ⟨fun hh => h.mp hh.2, fun hh => ⟨hh.1, h.mpr hh⟩⟩

theorem outB_max (hc0 : ¬cond1_0 i) (x0 : Vec Ideal S1 .f32) (x1 : Vec Ideal S352x7424 .bf16) (x3 : Vec Ideal S16x128 .f32)
    (y : Fin 16) (z : Fin 128) (b : EReal) :
    (out1_B_3 (F := Ideal) c i arg1 harg1 arg2 harg2 arg3 harg3 arg4 harg4 hc0 x0 x1 x3 (ix2 y z) : EReal) ≤ b
      ↔ (x3 (ix2 y z) : EReal) ≤ b ∧ 0 ≤ b ∧ TripBound 58 x1 b y.val z.val 11 := by
  have h := st_max c i arg1 harg1 arg2 harg2 arg3 harg3 arg4 harg4 (only x0) (harg2.unread x1) y z b _ (le_refl _)
  rw [harg2.read_unread, trips_eq] at h
  unfold out1_B_3
  unfold kernelRun1_B
  dsimp only
  unfold kernelRun1_B.sl.r
  rw [scale_read]
  rw [View.read_writes_junk_eq_canon, View.canon_cons_unit_zero (S := S16x128) (by decide)]
  unfold k1_pay6
  rw [shapeCast_self, View.readAt_eq_ld, harg4.read_unread, View.ld_unit_zero (S := S16x128) (by decide)]
  show max _ _ ≤ b ↔ _
  rw [max_le_iff]
  exact and_congr_right fun _ => h

end Out

/-! ## The two arrays after the grid -/

section Arrays

variable (V : (c : Dev nD) → (b : Ref sig .tc) → Buf (Elt F) ((c : Thread nD τ).loc b)) (c : Dev nD)

/-- The array quantised, the inverse scale it is multiplied by, and the two arrays the grid leaves. -/
abbrev src : (Sh2 15488 7424).Idx → F .bf16 := V c main_arg1
abbrev inv : F .f32 := only (V c main_v96 : S1.Idx → F .f32)
abbrev codes : (Sh2 15488 7424).Idx → F .fp8e4m3 := (dat1 V c).arrAt 2 cfg1.N
abbrev amax : (Sh2 16 128).Idx → F .f32 := (dat1 V c).arrAt 3 cfg1.N

/-- The block index of every window at every point. -/
theorem idx : ∀ t : Fin cfg1.N, win1_0.index t = ![0] ∧ win1_1.index t = ![t.val, 0] ∧ win1_2.index t = ![t.val, 0] :=
  (by decide +kernel : ∀ t : Fin grid1.N, _)

/-- Every point's scale is the scale array's one entry. -/
theorem iblk_scale (t : Fin cfg1.N) : iblk1 V c 0 t = V c main_v96 := by
  blk_ext! [iblk1, idx t]

/-- Block `t` of the input array is its rows from `352 * t` on. -/
theorem iblk_x (t : Fin cfg1.N) (r : Fin 352) (z : Fin 7424) (h : 352 * t.val + r.val < 15488) :
    iblk1 V c 1 t (ix2 r z) = src V c (ix2 ⟨352 * t.val + r.val, h⟩ z) := by
  blk_simp [iblk1, idx t]
  refine congrArg (V c main_arg1) (funext fun a => Fin.ext ?_)
  match a with
  | ⟨0, _⟩ => blk_simp [idx t]; show t.val * 352 + r.val = 352 * t.val + r.val; omega
  | ⟨1, _⟩ => blk_simp [idx t]

/-- What a point leaves in the codes' block: the code of every entry of its block of the input array. -/
theorem outs_codes (t : Fin cfg1.N) (y : S352x7424.Idx) :
    (outsAt1 V c t.val t.isLt).1 y = q (inv V c) (iblk1 V c 1 t y) := by
  unfold inv
  rw [← iblk_scale V c t]
  by_cases h0 : t.val % 44 = 0
  · rw [outsAt1_A V c t h0]
    dsimp only
    rw [outA_codes]
  · rw [outsAt1_B V c t h0]
    dsimp only
    rw [outB_codes]

/-- After its grid the codes array holds the code of every entry of the input array. -/
theorem codes_eq : codes V c = fun i => q (inv V c) (src V c i) := by
  refine (dat1 V c).arrAt_eq_of_covers 2 _ (by decide +kernel) fun t _ y => ?_
  blk_simp
  rw [after1_2]
  refine (outs_codes V c t y).trans (congrArg (q _) ?_)
  blk_simp [iblk1]
  refine congrArg (V c main_arg1) (funext fun a => Fin.ext ?_)
  match a with
  | ⟨0, _⟩ => blk_simp [idx t]
  | ⟨1, _⟩ => blk_simp [idx t]

end Arrays

section Max

variable (V : (c : Dev nD) → (b : Ref sig .tc) → Buf (Elt Ideal) ((c : Thread nD τ).loc b)) (c : Dev nD)

/-- After point `n` a lane of the maximum's block is at most `b` exactly when zero is and so is every magnitude the
    blocks up to `n` fold into it. -/
theorem outs_max (b : EReal) (y : Fin 16) (z : Fin 128) : ∀ (n : ℕ) (hn : n < cfg1.N),
    ((outsAt1 V c n hn).2 (ix2 y z) : EReal) ≤ b
      ↔ 0 ≤ b ∧ ∀ t, ∀ ht : t < cfg1.N, t ≤ n → TripBound 58 (iblk1 V c 1 ⟨t, ht⟩) b y.val z.val 11 := by
  refine grid_le b (fun n hn => (outsAt1 V c n hn).2 (ix2 y z))
    (fun t => TripBound 58 (iblk1 V c 1 t) b y.val z.val 11) ?_ ?_
  · intro hn
    rw [outsAt1_A V c ⟨0, hn⟩ (Nat.zero_mod _)]
    dsimp only
    rw [outA_max]
  · intro n hn
    have hN : n + 1 < 44 := hn
    rw [outsAt1_B V c ⟨n + 1, hn⟩ (by show ¬(n + 1) % 44 = 0; omega)]
    dsimp only
    rw [outB_max]
    simp only [Nat.add_sub_cancel]

/-- The grid's last point. -/
def last : Fin cfg1.N := ⟨43, by decide⟩

/-- After its grid every lane of the maximum array is at most `b` exactly when zero is and so is every magnitude of
    the input array. -/
theorem amax_le (b : EReal) :
    (∀ (y : Fin 16) (z : Fin 128), (amax V c (ix2 y z) : EReal) ≤ b)
      ↔ 0 ≤ b ∧ ∀ i : S15488x7424.Idx, max (src V c i : EReal) (-(src V c i : EReal)) ≤ b := by
  have e : amax V c = (outsAt1 V c last.val last.isLt).2 := by
    refine (dat1 V c).arrAt_eq_of_after_last 3 last (by decide +kernel) _ fun j => ?_
    blk_simp
    rw [after1_3]
  rw [e]
  exact amax_le_of_grid (T := 44) (src V c) (fun t => iblk1 V c 1 t) rfl rfl rfl (by decide)
    (fun t r z h => iblk_x V c t r z h) b _ fun y z => outs_max V c b y z _ last.isLt

end Max

end Cert.Proof.QuantW
end
end
-- ==== Proof.QuantDy.lean ====
/-
  The quantiser of the output gradients: what its two arrays hold after its 12 blocks of 512 rows.

  One trip of the block's loop stores the codes of 58 tiles (`trip_codes`) and folds their magnitudes into
  the carried maximum (`trip_max`). Over the trips of a block and the blocks of the grid: the codes array
  holds the code of every entry (`codes_eq`), and a lane of the maximum array is at most `b` exactly when
  zero is and every magnitude folded into that lane is (`amax_le`).
-/
module

public import proofs.«01_k».proof.Proof.Gen.KernelIdeal.Frame.Region2
public import proofs.«01_k».proof.Proof.Tile
public import Idealize.ShloMosaic.Lib.IdealHost
public import Idealize.ShloMosaic.Lib.Pipeline.Covers

@[expose] public section

set_option maxRecDepth 16384

noncomputable section

open Idealize.ShloMosaic Idealize.ShloMosaic.TcCoe Idealize.SL.Sem

namespace Cert.Proof.QuantDy

open Cert.KernelIdeal Cert.KernelIdeal.Gen
open Idealize.ShloMosaic.Pipeline (Dat Cfg Window)

variable {F : FTy → Type} [FloatOps F]

/-- The code of one entry. -/
abbrev q (s : F .f32) (v : F .bf16) : F .fp8e5m2 := code bitsLt_fp8e5m2_bf16 0xC7600000#32 0x47600000#32 s v

/-- The offsets of tile `j` of trip `k`. -/
def off (k : Fin k2_t1_loop.trips) (j : Fin 58) : Fin 2 → ℕ := ![k2_off1 k 0, 128 * j.val]

theorem off_inb : ∀ (k : Fin k2_t1_loop.trips) (j : Fin 58) (a : Fin 2),
    off k j a + S32x128.size a ≤ S512x7424.size a := by decide +kernel

theorem off_eq (k : Fin k2_t1_loop.trips) (j : Fin 58) : off k j 0 = 32 * k.val ∧ off k j 1 = 128 * j.val :=
  ⟨congrFun (k2_off1_eq k) 0, rfl⟩

theorem trips_eq : k2_t1_loop.trips = 16 := by decide +kernel

section Block

variable (c : Dev nD) (i : grid2.Coords) (arg1 : Memref sig .tc .smem S1 .f32) (harg1 : arg1.IsWhole)
  (arg2 : Memref sig .tc .vmem S512x7424 .bf16) (harg2 : arg2.IsWhole)
  (arg3 : Memref sig .tc .vmem S512x7424 .fp8e5m2) (harg3 : arg3.IsWhole)
  (arg4 : Memref sig .tc .vmem S16x128 .f32) (harg4 : arg4.IsWhole)

section Trip

variable (v0 : Elt F .f32) (X : BufTy.Contents (Elt F) arg2.view.ty) (k : Fin k2_t1_loop.trips)
  (acc : FVec F S16x128 .bf16)

/-- Every piece one trip stores is the code of the entries its rectangle names. -/
theorem trip_codes :
    tripL_k2_t1 (F := F) Variants.none c none i arg1 harg1 arg2 harg2 arg3 harg3 arg4 harg4 v0 X k acc
    = (tripL_k2_t1 (F := F) Variants.none c none i arg1 harg1 arg2 harg2 arg3 harg3 arg4 harg4 v0 X k acc).map
        fun p => ⟨p.1, fun x => q v0 (shapeCast p.1.shape (fun x => arg2.view.read (Elt F) X (p.1.emb x)) rfl x)⟩ := by
  sl_kernel_rfl

/-- The carry after one trip: the folds of its tiles met from left to right. -/
theorem trip_max :
    tripR_k2_t1 (F := F) Variants.none c none i arg1 harg1 arg2 harg2 arg3 harg3 arg4 harg4 v0 X k acc
    = carry (fun j => if h : j < 58 then
        fold16 (tile (arg2.view.read (Elt F) X) (off k ⟨j, h⟩) (off_inb k ⟨j, h⟩))
          slices_S32x128_o0_0_S16x128 slices_S32x128_o16_0_S16x128
        else acc) acc 58 := by
  sl_kernel_rfl

end Trip

/-- The state of the block's loop before trip `n`. -/
abbrev st (v0 : Elt F .f32) (X : BufTy.Contents (Elt F) arg2.view.ty) (n : ℕ) :=
  st_k2_t1 (F := F) Variants.none c none i arg1 harg1 arg2 harg2 arg3 harg3 arg4 harg4 v0 X k2_pay3 n

/-- Every piece stored by the first `n` trips is the code of the entries its rectangle names. -/
theorem st_codes (v0 : Elt F .f32) (X : BufTy.Contents (Elt F) arg2.view.ty) :
    ∀ n ≤ k2_t1_loop.trips, ∀ p ∈ (st c i arg1 harg1 arg2 harg2 arg3 harg3 arg4 harg4 v0 X n).2,
      ∀ x : p.1.shape.Idx, p.2 x = q v0 (arg2.view.read (Elt F) X (p.1.emb x)) := by
  refine pieces_of_trips _ _ (fun n => (st c i arg1 harg1 arg2 harg2 arg3 harg3 arg4 harg4 v0 X n).2)
    (fun n => if h : n < k2_t1_loop.trips then
      tripL_k2_t1 Variants.none c none i arg1 harg1 arg2 harg2 arg3 harg3 arg4 harg4 v0 X ⟨n, h⟩
        (st c i arg1 harg1 arg2 harg2 arg3 harg3 arg4 harg4 v0 X n).1 else []) rfl ?_ ?_
  · intro n hn
    rw [dif_pos hn]
    exact congrArg Prod.snd (st_k2_t1_succ Variants.none c none i arg1 harg1 arg2 harg2 arg3 harg3 arg4 harg4 v0 X
      k2_pay3 ⟨n, hn⟩)
  · intro n hn p hp
    rw [dif_pos hn, trip_codes] at hp
    obtain ⟨p', -, rfl⟩ := List.mem_map.mp hp
    intro x
    dsimp only
    rw [shapeCast_self]

/-- The carry before trip `n` is at most `b` exactly when zero and the magnitudes met so far are. -/
theorem st_max (v0 : Elt Ideal .f32) (X : BufTy.Contents (Elt Ideal) arg2.view.ty) (y : Fin 16) (z : Fin 128) (b : EReal) :
    ∀ n ≤ k2_t1_loop.trips,
      (((st (F := Ideal) c i arg1 harg1 arg2 harg2 arg3 harg3 arg4 harg4 v0 X n).1 (ix2 y z) : EReal) ≤ b
      ↔ 0 ≤ b ∧ TripBound 58 (arg2.view.read (Elt Ideal) X) b y.val z.val n) := by
  refine loop_le _ b y z off off_inb off_eq slices_S32x128_o0_0_S16x128 slices_S32x128_o16_0_S16x128
    (fun n => (st (F := Ideal) c i arg1 harg1 arg2 harg2 arg3 harg3 arg4 harg4 v0 X n).1) Ideal.ofBits_zero_bf16 ?_
  intro n hn
  refine (congrArg Prod.fst (st_k2_t1_succ (F := Ideal) Variants.none c none i arg1 harg1 arg2 harg2 arg3 harg3 arg4
    harg4 v0 X k2_pay3 ⟨n, hn⟩)).trans ?_
  exact trip_max c i arg1 harg1 arg2 harg2 arg3 harg3 arg4 harg4 v0 X ⟨n, hn⟩ _

end Block

/-! ## The contents a block leaves -/

section Out

variable (c : Dev nD) (i : grid2.Coords) (arg1 : Memref sig .tc .smem S1 .f32) (harg1 : arg1.IsWhole)
  (arg2 : Memref sig .tc .vmem S512x7424 .bf16) (harg2 : arg2.IsWhole)
  (arg3 : Memref sig .tc .vmem S512x7424 .fp8e5m2) (harg3 : arg3.IsWhole)
  (arg4 : Memref sig .tc .vmem S16x128 .f32) (harg4 : arg4.IsWhole)

/-- What the block reads as its inverse scale. -/
theorem scale_read (x0 : Vec F S1 .f32) (h) :
    View.readAt (Elt F) arg1.view (Rect.unit ![0] S1.size inb_S1_S1_0).toLoadRect (harg1.unread x0) (Shape.Idx.first h)
      = only x0 := by
  rw [View.readAt_apply, harg1.read_unread]
  exact only_eq x0 _

theorem outA_codes (hc0 : cond2_0 i) (x0 : Vec F S1 .f32) (x1 : Vec F S512x7424 .bf16) (y : S512x7424.Idx) :
    out2_A_2 c i arg1 harg1 arg2 harg2 arg3 harg3 arg4 harg4 hc0 x0 x1 y = q (only x0) (x1 y) := by
  unfold out2_A_2
  rw [View.read_writes_junk_eq_canon]
  refine View.canon_apply_of_pieces (fun y => q (only x0) (x1 y)) _ ?_ y
    (cover2_A_2 c i arg1 harg1 arg2 harg2 arg3 harg3 arg4 harg4 hc0 x0 x1 y)
  unfold kernelRun2_A
  dsimp only
  unfold kernelRun2_A.sl.r
  rw [scale_read]
  intro p hp x
  have := st_codes (F := F) c i arg1 harg1 arg2 harg2 arg3 harg3 arg4 harg4 (only x0) (harg2.unread x1) _ (le_refl _) p hp x
  rw [harg2.read_unread] at this
  exact this

theorem outB_codes (hc0 : ¬cond2_0 i) (x0 : Vec F S1 .f32) (x1 : Vec F S512x7424 .bf16) (x3 : Vec F S16x128 .f32)
    (y : S512x7424.Idx) :
    out2_B_2 c i arg1 harg1 arg2 harg2 arg3 harg3 arg4 harg4 hc0 x0 x1 x3 y = q (only x0) (x1 y) := by
  unfold out2_B_2
  rw [View.read_writes_junk_eq_canon]
  refine View.canon_apply_of_pieces (fun y => q (only x0) (x1 y)) _ ?_ y
    (cover2_B_2 c i arg1 harg1 arg2 harg2 arg3 harg3 arg4 harg4 hc0 x0 x1 x3 y)
  unfold kernelRun2_B
  dsimp only
  unfold kernelRun2_B.sl.r
  rw [scale_read]
  intro p hp x
  have := st_codes (F := F) c i arg1 harg1 arg2 harg2 arg3 harg3 arg4 harg4 (only x0) (harg2.unread x1) _ (le_refl _) p hp x
  rw [harg2.read_unread] at this
  exact this

theorem outA_max (hc0 : cond2_0 i) (x0 : Vec Ideal S1 .f32) (x1 : Vec Ideal S512x7424 .bf16) (y : Fin 16) (z : Fin 128) (b : EReal) :
    (out2_A_3 (F := Ideal) c i arg1 harg1 arg2 harg2 arg3 harg3 arg4 harg4 hc0 x0 x1 (ix2 y z) : EReal) ≤ b
      ↔ 0 ≤ b ∧ TripBound 58 x1 b y.val z.val 16 := by
  have h := st_max c i arg1 harg1 arg2 harg2 arg3 harg3 arg4 harg4 (only x0) (harg2.unread x1) y z b _ (le_refl _)
  rw [harg2.read_unread, trips_eq] at h
  unfold out2_A_3
  unfold kernelRun2_A
  dsimp only
  unfold kernelRun2_A.sl.r kernelRun2_A.sl.v8 kernelRun2_A.sl.H3_1
  rw [scale_read]
  rw [View.read_writes_junk_eq_canon, View.canon_cons_unit_zero (by decide), View.readCov_unit_zero _ (by decide)]
  unfold k2_pay6 k2_pay2
  dsimp only
  rw [shapeCast_self]
  show max (Ideal.ofBits .f32 0x00000000#32) _ ≤ b ↔ _
  rw [Ideal.ofBits_zero_f32, max_le_iff]
  exact ⟨fun hh => h.mp hh.2, fun hh => ⟨hh.1, h.mpr hh⟩⟩

theorem outB_max (hc0 : ¬cond2_0 i) (x0 : Vec Ideal S1 .f32) (x1 : Vec Ideal S512x7424 .bf16) (x3 : Vec Ideal S16x128 .f32)
    (y : Fin 16) (z : Fin 128) (b : EReal) :
    (out2_B_3 (F := Ideal) c i arg1 harg1 arg2 harg2 arg3 harg3 arg4 harg4 hc0 x0 x1 x3 (ix2 y z) : EReal) ≤ b
      ↔ (x3 (ix2 y z) : EReal) ≤ b ∧ 0 ≤ b ∧ TripBound 58 x1 b y.val z.val 16 := by
  have h := st_max c i arg1 harg1 arg2 harg2 arg3 harg3 arg4 harg4 (only x0) (harg2.unread x1) y z b _ (le_refl _)
  rw [harg2.read_unread, trips_eq] at h
  unfold out2_B_3
  unfold kernelRun2_B
  dsimp only
  unfold kernelRun2_B.sl.r
  rw [scale_read]
  rw [View.read_writes_junk_eq_canon, View.canon_cons_unit_zero (S := S16x128) (by decide)]
  unfold k2_pay6
  rw [shapeCast_self, View.readAt_eq_ld, harg4.read_unread, View.ld_unit_zero (S := S16x128) (by decide)]
  show max _ _ ≤ b ↔ _
  rw [max_le_iff]
  exact and_congr_right fun _ => h

end Out

/-! ## The two arrays after the grid -/

section Arrays

variable (V : (c : Dev nD) → (b : Ref sig .tc) → Buf (Elt F) ((c : Thread nD τ).loc b)) (c : Dev nD)

/-- The array quantised, the inverse scale it is multiplied by, and the two arrays the grid leaves. -/
abbrev src : (Sh2 6144 7424).Idx → F .bf16 := V c main_v98
abbrev inv : F .f32 := only (V c main_v99 : S1.Idx → F .f32)
abbrev codes : (Sh2 6144 7424).Idx → F .fp8e5m2 := (dat2 V c).arrAt 2 cfg2.N
abbrev amax : (Sh2 16 128).Idx → F .f32 := (dat2 V c).arrAt 3 cfg2.N

/-- The block index of every window at every point. -/
theorem idx : ∀ t : Fin cfg2.N, win2_0.index t = ![0] ∧ win2_1.index t = ![t.val, 0] ∧ win2_2.index t = ![t.val, 0] :=
  (by decide +kernel : ∀ t : Fin grid2.N, _)

/-- Every point's scale is the scale array's one entry. -/
theorem iblk_scale (t : Fin cfg2.N) : iblk2 V c 0 t = V c main_v99 := by
  blk_ext! [iblk2, idx t]

/-- Block `t` of the input array is its rows from `512 * t` on. -/
theorem iblk_x (t : Fin cfg2.N) (r : Fin 512) (z : Fin 7424) (h : 512 * t.val + r.val < 6144) :
    iblk2 V c 1 t (ix2 r z) = src V c (ix2 ⟨512 * t.val + r.val, h⟩ z) := by
  blk_simp [iblk2, idx t]
  refine congrArg (V c main_v98) (funext fun a => Fin.ext ?_)
  match a with
  | ⟨0, _⟩ => blk_simp [idx t]; show t.val * 512 + r.val = 512 * t.val + r.val; omega
  | ⟨1, _⟩ => blk_simp [idx t]

/-- What a point leaves in the codes' block: the code of every entry of its block of the input array. -/
theorem outs_codes (t : Fin cfg2.N) (y : S512x7424.Idx) :
    (outsAt2 V c t.val t.isLt).1 y = q (inv V c) (iblk2 V c 1 t y) := by
  unfold inv
  rw [← iblk_scale V c t]
  by_cases h0 : t.val % 12 = 0
  · rw [outsAt2_A V c t h0]
    dsimp only
    rw [outA_codes]
  · rw [outsAt2_B V c t h0]
    dsimp only
    rw [outB_codes]

/-- After its grid the codes array holds the code of every entry of the input array. -/
theorem codes_eq : codes V c = fun i => q (inv V c) (src V c i) := by
  refine (dat2 V c).arrAt_eq_of_covers 2 _ (by decide +kernel) fun t _ y => ?_
  blk_simp
  rw [after2_2]
  refine (outs_codes V c t y).trans (congrArg (q _) ?_)
  blk_simp [iblk2]
  refine congrArg (V c main_v98) (funext fun a => Fin.ext ?_)
  match a with
  | ⟨0, _⟩ => blk_simp [idx t]
  | ⟨1, _⟩ => blk_simp [idx t]

end Arrays

section Max

variable (V : (c : Dev nD) → (b : Ref sig .tc) → Buf (Elt Ideal) ((c : Thread nD τ).loc b)) (c : Dev nD)

/-- After point `n` a lane of the maximum's block is at most `b` exactly when zero is and so is every magnitude the
    blocks up to `n` fold into it. -/
theorem outs_max (b : EReal) (y : Fin 16) (z : Fin 128) : ∀ (n : ℕ) (hn : n < cfg2.N),
    ((outsAt2 V c n hn).2 (ix2 y z) : EReal) ≤ b
      ↔ 0 ≤ b ∧ ∀ t, ∀ ht : t < cfg2.N, t ≤ n → TripBound 58 (iblk2 V c 1 ⟨t, ht⟩) b y.val z.val 16 := by
  refine grid_le b (fun n hn => (outsAt2 V c n hn).2 (ix2 y z))
    (fun t => TripBound 58 (iblk2 V c 1 t) b y.val z.val 16) ?_ ?_
  · intro hn
    rw [outsAt2_A V c ⟨0, hn⟩ (Nat.zero_mod _)]
    dsimp only
    rw [outA_max]
  · intro n hn
    have hN : n + 1 < 12 := hn
    rw [outsAt2_B V c ⟨n + 1, hn⟩ (by show ¬(n + 1) % 12 = 0; omega)]
    dsimp only
    rw [outB_max]
    simp only [Nat.add_sub_cancel]

/-- The grid's last point. -/
def last : Fin cfg2.N := ⟨11, by decide⟩

/-- After its grid every lane of the maximum array is at most `b` exactly when zero is and so is every magnitude of
    the input array. -/
theorem amax_le (b : EReal) :
    (∀ (y : Fin 16) (z : Fin 128), (amax V c (ix2 y z) : EReal) ≤ b)
      ↔ 0 ≤ b ∧ ∀ i : S6144x7424.Idx, max (src V c i : EReal) (-(src V c i : EReal)) ≤ b := by
  have e : amax V c = (outsAt2 V c last.val last.isLt).2 := by
    refine (dat2 V c).arrAt_eq_of_after_last 3 last (by decide +kernel) _ fun j => ?_
    blk_simp
    rw [after2_3]
  rw [e]
  exact amax_le_of_grid (T := 12) (src V c) (fun t => iblk2 V c 1 t) rfl rfl rfl (by decide)
    (fun t r z h => iblk_x V c t r z h) b _ fun y z => outs_max V c b y z _ last.isLt

end Max

end Cert.Proof.QuantDy
end
end
-- ==== Proof.ProductY.lean ====
/-
  The output's product: what its array holds after the grid's blocks of 1024 rows by 256 columns.

  A block multiplies 1024 rows of the input codes by 256 columns of the weight codes, over the whole contracted axis,
  and scales. So the array holds, entry by entry, the scaled product of the two whole arrays (`out_eq`).
-/
module

public import proofs.«01_k».proof.Proof.Gen.KernelIdeal.Frame.Region3
public import proofs.«01_k».proof.Proof.Products
public import Idealize.ShloMosaic.Lib.Pipeline.Covers

@[expose] public section

set_option maxRecDepth 16384

noncomputable section

open Idealize.ShloMosaic Idealize.ShloMosaic.TcCoe Idealize.SL.Sem

namespace Cert.Proof.ProductY

open Cert.KernelIdeal Cert.KernelIdeal.Gen
open Idealize.ShloMosaic.Pipeline (Dat Cfg Window)

/-- One block: the product of its two operands, scaled. -/
theorem block (a : Vec Ideal S1024x15488 .fp8e4m3) (b : Vec Ideal S15488x256 .fp8e4m3) (s : EReal) (i : S1024x256.Idx) :
    (k3_pay1 (F := Ideal) a b s i : EReal) = mulNN (M := 1024) (K := 15488) (N := 256) a b i * s := by
  unfold k3_pay1
  rw [shapeCast_self, shapeCast_self]
  exact congrArg (· * s) (matmul_nn _ rfl a b i)

variable (V : (c : Dev nD) → (b : Ref sig .tc) → Buf (Elt Ideal) ((c : Thread nD τ).loc b)) (c : Dev nD)

/-- The two arrays multiplied, the scale, and the array the grid leaves. -/
abbrev lhs : Mat 6144 15488 := V c main_v95_0
abbrev rhs : Mat 15488 7424 := V c main_v97_0
abbrev scale : EReal := only (V c main_v102 : S1.Idx → EReal)
abbrev out : Mat 6144 7424 := (dat3 V c).arrAt 3 cfg3.N

/-- The block index of every window at every point. -/
theorem idx : ∀ t : Fin cfg3.N, win3_0.index t = ![0] ∧ win3_1.index t = ![(grid3.coords t 0).val, 0]
    ∧ win3_2.index t = ![0, (grid3.coords t 1).val] ∧ win3_3.index t = ![(grid3.coords t 0).val, (grid3.coords t 1).val] :=
  (by decide +kernel : ∀ t : Fin grid3.N, _)

/-- Every point's scale is the scale array's one entry. -/
theorem iblk_scale (t : Fin cfg3.N) : iblk3 V c 0 t = V c main_v102 := by
  blk_ext! [iblk3, idx t]

/-- What a point leaves in its block. -/
theorem outs (t : Fin cfg3.N) (y : S1024x256.Idx) :
    (outsAt3 V c t y : EReal)
      = mulNN (M := 1024) (K := 15488) (N := 256) (iblk3 V c 1 t) (iblk3 V c 2 t) y * scale V c := by
  unfold scale
  rw [← iblk_scale V c t]
  unfold outsAt3
  frame_out
  exact (block _ _ _ y).trans (congrArg (_ * ·) (only_eq (iblk3 V c 0 t) _))

/-- The output's blocks cover its array. -/
theorem covers : (cfg3.win 3).Covers := by decide +kernel

/-- After its grid the array holds the scaled product of the two whole arrays. -/
theorem out_eq : out V c = fun i => mulNN (lhs V c) (rhs V c) i * scale V c := by
  refine (dat3 V c).arrAt_eq_of_covers 3 _ covers fun t _ y => ?_
  blk_simp
  rw [after3_3]
  refine (outs V c t y).trans (congrArg (· * scale V c) ?_)
  refine Finset.sum_congr rfl fun k _ => congrArg₂ (· * ·) ?_ ?_
  · blk_simp [iblk3]
    refine congrArg (V c main_v95_0) (funext fun a => Fin.ext ?_)
    match a with
    | ⟨0, _⟩ => blk_simp [idx t]
    | ⟨1, _⟩ => blk_simp [idx t]
  · blk_simp [iblk3]
    refine congrArg (V c main_v97_0) (funext fun a => Fin.ext ?_)
    match a with
    | ⟨0, _⟩ => blk_simp [idx t]
    | ⟨1, _⟩ => blk_simp [idx t]

end Cert.Proof.ProductY
end
end
-- ==== Proof.ProductDx.lean ====
/-
  The product that gives the gradient of the inputs: what its array holds after the grid's blocks of 1024 rows by 1408
  columns.

  A block multiplies 1024 rows of the gradient codes by the transpose of 1408 rows of the weight codes, over the whole
  contracted axis, and scales. So the array holds, entry by entry, the scaled product of the gradient codes with the
  transpose of the weight codes (`out_eq`).
-/
module

public import proofs.«01_k».proof.Proof.Gen.KernelIdeal.Frame.Region4
public import proofs.«01_k».proof.Proof.Products
public import Idealize.ShloMosaic.Lib.Pipeline.Covers

@[expose] public section

set_option maxRecDepth 16384

noncomputable section

open Idealize.ShloMosaic Idealize.ShloMosaic.TcCoe Idealize.SL.Sem

namespace Cert.Proof.ProductDx

open Cert.KernelIdeal Cert.KernelIdeal.Gen
open Idealize.ShloMosaic.Pipeline (Dat Cfg Window)

/-- One block: the product of its two operands, scaled. -/
theorem block (a : Vec Ideal S1024x7424 .fp8e5m2) (b : Vec Ideal S1408x7424 .fp8e4m3) (s : EReal) (i : S1024x1408.Idx) :
    (k4_pay1 (F := Ideal) a b s i : EReal) = mulNT (M := 1024) (K := 7424) (N := 1408) a b i * s := by
  unfold k4_pay1
  rw [shapeCast_self, shapeCast_self]
  exact congrArg (· * s) (matmul_nt _ rfl a b i)

variable (V : (c : Dev nD) → (b : Ref sig .tc) → Buf (Elt Ideal) ((c : Thread nD τ).loc b)) (c : Dev nD)

/-- The two arrays multiplied, the scale, and the array the grid leaves. -/
abbrev lhs : Mat 6144 7424 := V c main_v100_0
abbrev rhs : Mat 15488 7424 := V c main_v97_0
abbrev scale : EReal := only (V c main_v105 : S1.Idx → EReal)
abbrev out : Mat 6144 15488 := (dat4 V c).arrAt 3 cfg4.N

/-- The block index of every window at every point. -/
theorem idx : ∀ t : Fin cfg4.N, win4_0.index t = ![0] ∧ win4_1.index t = ![(grid4.coords t 0).val, 0]
    ∧ win4_2.index t = ![(grid4.coords t 1).val, 0] ∧ win4_3.index t = ![(grid4.coords t 0).val, (grid4.coords t 1).val] :=
  (by decide +kernel : ∀ t : Fin grid4.N, _)

/-- Every point's scale is the scale array's one entry. -/
theorem iblk_scale (t : Fin cfg4.N) : iblk4 V c 0 t = V c main_v105 := by
  blk_ext! [iblk4, idx t]

/-- What a point leaves in its block. -/
theorem outs (t : Fin cfg4.N) (y : S1024x1408.Idx) :
    (outsAt4 V c t y : EReal)
      = mulNT (M := 1024) (K := 7424) (N := 1408) (iblk4 V c 1 t) (iblk4 V c 2 t) y * scale V c := by
  unfold scale
  rw [← iblk_scale V c t]
  unfold outsAt4
  frame_out
  exact (block _ _ _ y).trans (congrArg (_ * ·) (only_eq (iblk4 V c 0 t) _))

/-- The blocks cover the array. -/
theorem covers : (cfg4.win 3).Covers := by decide +kernel

/-- After the grid the array holds the scaled product of one whole array with the transpose of the other. -/
theorem out_eq : out V c = fun i => mulNT (lhs V c) (rhs V c) i * scale V c := by
  refine (dat4 V c).arrAt_eq_of_covers 3 _ covers fun t _ y => ?_
  blk_simp
  rw [after4_3]
  refine (outs V c t y).trans (congrArg (· * scale V c) ?_)
  refine Finset.sum_congr rfl fun k _ => congrArg₂ (· * ·) ?_ ?_
  · blk_simp [iblk4]
    refine congrArg (V c main_v100_0) (funext fun a => Fin.ext ?_)
    match a with
    | ⟨0, _⟩ => blk_simp [idx t]
    | ⟨1, _⟩ => blk_simp [idx t]
  · blk_simp [iblk4]
    refine congrArg (V c main_v97_0) (funext fun a => Fin.ext ?_)
    match a with
    | ⟨0, _⟩ => blk_simp [idx t]
    | ⟨1, _⟩ => blk_simp [idx t]

end Cert.Proof.ProductDx
end
end
-- ==== Proof.ProductDw.lean ====
/-
  The product that gives the gradient of the weights: what its array holds after the grid's blocks of 1408 rows by 256
  columns.

  A block multiplies the transpose of 1408 columns of the input codes by 256 columns of the gradient codes, over the
  whole contracted axis, and scales. So the array holds, entry by entry, the scaled product of the transpose of the
  input codes with the gradient codes (`out_eq`).
-/
module

public import proofs.«01_k».proof.Proof.Gen.KernelIdeal.Frame.Region5
public import proofs.«01_k».proof.Proof.Products
public import Idealize.ShloMosaic.Lib.Pipeline.Covers

@[expose] public section

set_option maxRecDepth 16384

noncomputable section

open Idealize.ShloMosaic Idealize.ShloMosaic.TcCoe Idealize.SL.Sem

namespace Cert.Proof.ProductDw

open Cert.KernelIdeal Cert.KernelIdeal.Gen
open Idealize.ShloMosaic.Pipeline (Dat Cfg Window)

/-- One block: the product of its two operands, scaled. -/
theorem block (a : Vec Ideal S6144x1408 .fp8e4m3) (b : Vec Ideal S6144x256 .fp8e5m2) (s : EReal) (i : S1408x256.Idx) :
    (k5_pay1 (F := Ideal) a b s i : EReal) = mulTN (M := 1408) (K := 6144) (N := 256) a b i * s := by
  unfold k5_pay1
  rw [shapeCast_self, shapeCast_self]
  exact congrArg (· * s) (matmul_tn _ rfl rfl rfl rfl rfl rfl a b i)

variable (V : (c : Dev nD) → (b : Ref sig .tc) → Buf (Elt Ideal) ((c : Thread nD τ).loc b)) (c : Dev nD)

/-- The two arrays multiplied, the scale, and the array the grid leaves. -/
abbrev lhs : Mat 6144 15488 := V c main_v95_0
abbrev rhs : Mat 6144 7424 := V c main_v100_0
abbrev scale : EReal := only (V c main_v108 : S1.Idx → EReal)
abbrev out : Mat 15488 7424 := (dat5 V c).arrAt 3 cfg5.N

/-- The block index of every window at every point. -/
theorem idx : ∀ t : Fin cfg5.N, win5_0.index t = ![0] ∧ win5_1.index t = ![0, (grid5.coords t 0).val]
    ∧ win5_2.index t = ![0, (grid5.coords t 1).val] ∧ win5_3.index t = ![(grid5.coords t 0).val, (grid5.coords t 1).val] :=
  (by decide +kernel : ∀ t : Fin grid5.N, _)

/-- Every point's scale is the scale array's one entry. -/
theorem iblk_scale (t : Fin cfg5.N) : iblk5 V c 0 t = V c main_v108 := by
  blk_ext! [iblk5, idx t]

/-- What a point leaves in its block. -/
theorem outs (t : Fin cfg5.N) (y : S1408x256.Idx) :
    (outsAt5 V c t y : EReal)
      = mulTN (M := 1408) (K := 6144) (N := 256) (iblk5 V c 1 t) (iblk5 V c 2 t) y * scale V c := by
  unfold scale
  rw [← iblk_scale V c t]
  unfold outsAt5
  frame_out
  exact (block _ _ _ y).trans (congrArg (_ * ·) (only_eq (iblk5 V c 0 t) _))

/-- The blocks cover the array. -/
theorem covers : (cfg5.win 3).Covers := by decide +kernel

/-- After the grid the array holds the scaled product of one whole array's transpose with the other. -/
theorem out_eq : out V c = fun i => mulTN (lhs V c) (rhs V c) i * scale V c := by
  refine (dat5 V c).arrAt_eq_of_covers 3 _ covers fun t _ y => ?_
  blk_simp
  rw [after5_3]
  refine (outs V c t y).trans (congrArg (· * scale V c) ?_)
  refine Finset.sum_congr rfl fun k _ => congrArg₂ (· * ·) ?_ ?_
  · blk_simp [iblk5]
    refine congrArg (V c main_v95_0) (funext fun a => Fin.ext ?_)
    match a with
    | ⟨0, _⟩ => blk_simp [idx t]
    | ⟨1, _⟩ => blk_simp [idx t]
  · blk_simp [iblk5]
    refine congrArg (V c main_v100_0) (funext fun a => Fin.ext ?_)
    match a with
    | ⟨0, _⟩ => blk_simp [idx t]
    | ⟨1, _⟩ => blk_simp [idx t]

end Cert.Proof.ProductDw
end
end
-- ==== Proof.KernelValue.lean ====
/-
  What the kernel leaves, result by result: its six launches one after the other, each on what the earlier ones left.
-/
module

public import proofs.«01_k».proof.Proof.KernelScales
public import proofs.«01_k».proof.Proof.QuantX
public import proofs.«01_k».proof.Proof.QuantW
public import proofs.«01_k».proof.Proof.QuantDy
public import proofs.«01_k».proof.Proof.ProductY
public import proofs.«01_k».proof.Proof.ProductDx
public import proofs.«01_k».proof.Proof.ProductDw

@[expose] public section

noncomputable section

open Idealize.ShloMosaic Idealize.ShloMosaic.TcCoe Idealize.SL.Sem

namespace Cert.Proof.KernelValue

open Cert.KernelIdeal Cert.KernelIdeal.Gen Cert.Proof.KernelScales

variable (m : (ℓ : Loc nD τ sig) → Buf (Elt Ideal) ℓ) (ρ : Dev nD → PrngReg) (c : Dev nD)

/-- The one entry of a scalar made an array of one. -/
theorem only_shapeCast (v : FVec Ideal S_ .f32) : only (shapeCast S1 v shapeCasts_S_S1) = Answer.num v :=
  congrArg v (funext fun a => a.elim0)

/-- A code in the ideal numbers is the clipped number. -/
theorem codes4_eq {ι : Type} (s : EReal) (x : ι → EReal) :
    (fun i => QuantX.q (F := Ideal) s (x i)) = Answer.codes4 s x := rfl

theorem codes5_eq {ι : Type} (s : EReal) (x : ι → EReal) :
    (fun i => QuantDy.q (F := Ideal) s (x i)) = Answer.codes5 s x := rfl

/-! ### The inputs' codes -/

theorem x_codes_26 : W26 m ρ c (Proc.devRef .tc main_v95_0) = Answer.xCodes (argX m c) (argH m c) := by
  refine (W26_arr m ρ c 2).trans ((QuantX.codes_eq (V25 m ρ) c).trans ?_)
  rw [show QuantX.inv (V25 m ρ) c = Answer.num (Answer.xInv (argH m c)) from
    (congrArg only (x_inv_array m ρ c)).trans (only_shapeCast _),
    show QuantX.src (V25 m ρ) c = Answer.rows (argX m c) from x_rows m ρ c]
  rfl

theorem x_codes_31 : W31 m ρ c (Proc.devRef .tc main_v95_0) = Answer.xCodes (argX m c) (argH m c) :=
  (W31_of m ρ c main_v95_0 (by decide)).trans <| (W30_of m ρ c main_v95_0 (by decide +kernel)).trans <|
  (W29_of m ρ c main_v95_0 (by decide)).trans <| (W28_of m ρ c main_v95_0 (by decide +kernel)).trans <|
  (W27_of m ρ c main_v95_0 (by decide)).trans (x_codes_26 m ρ c)

theorem x_codes_35 : W35 m ρ c (Proc.devRef .tc main_v95_0) = Answer.xCodes (argX m c) (argH m c) :=
  (W35_of m ρ c main_v95_0 (by decide)).trans <| (W34_of m ρ c main_v95_0 (by decide +kernel)).trans <|
  (W33_of m ρ c main_v95_0 (by decide)).trans <| (W32_of m ρ c main_v95_0 (by decide +kernel)).trans (x_codes_31 m ρ c)

/-! ### The weights' codes -/

theorem w_inv_26 : W26 m ρ c (Proc.devRef .tc main_v61) = Answer.wInv (argH m c) :=
  (W26_of m ρ c main_v61 (by decide +kernel)).trans (w_inv m ρ c)

theorem w_inv_array : W27 m ρ c (Proc.devRef .tc main_v96) = shapeCast S1 (Answer.wInv (argH m c)) shapeCasts_S_S1 := by
  after_reads_simp
  rw [w_inv_26 m ρ c]
  rfl

theorem w_codes_28 : W28 m ρ c (Proc.devRef .tc main_v97_0) = Answer.wCodes (argW m c) (argH m c) := by
  refine (W28_arr m ρ c 2).trans ((QuantW.codes_eq (V27 m ρ) c).trans ?_)
  rw [show QuantW.inv (V27 m ρ) c = Answer.num (Answer.wInv (argH m c)) from
    (congrArg only (w_inv_array m ρ c)).trans (only_shapeCast _),
    show QuantW.src (V27 m ρ) c = argW m c from W27_args m ρ c main_arg1 (by decide)]
  rfl

theorem w_codes_31 : W31 m ρ c (Proc.devRef .tc main_v97_0) = Answer.wCodes (argW m c) (argH m c) :=
  (W31_of m ρ c main_v97_0 (by decide)).trans <| (W30_of m ρ c main_v97_0 (by decide +kernel)).trans <|
  (W29_of m ρ c main_v97_0 (by decide)).trans (w_codes_28 m ρ c)

theorem w_codes_33 : W33 m ρ c (Proc.devRef .tc main_v97_0) = Answer.wCodes (argW m c) (argH m c) :=
  (W33_of m ρ c main_v97_0 (by decide)).trans <| (W32_of m ρ c main_v97_0 (by decide +kernel)).trans (w_codes_31 m ρ c)

/-! ### The gradients' codes -/

theorem dy_inv_28 : W28 m ρ c (Proc.devRef .tc main_v92) = Answer.dyInv (argH m c) :=
  (W28_of m ρ c main_v92 (by decide +kernel)).trans <| (W27_of m ρ c main_v92 (by decide)).trans <|
  (W26_of m ρ c main_v92 (by decide +kernel)).trans (dy_inv m ρ c)

theorem dy_inv_array : W29 m ρ c (Proc.devRef .tc main_v99) = shapeCast S1 (Answer.dyInv (argH m c)) shapeCasts_S_S1 := by
  after_reads_simp
  rw [dy_inv_28 m ρ c]
  rfl

theorem dy_rows : W29 m ρ c (Proc.devRef .tc main_v98) = Answer.dyRows (argDy m c) := by
  after_reads_simp
  rw [W28_args m ρ c main_arg2 (by decide)]
  rfl

theorem dy_codes_30 : W30 m ρ c (Proc.devRef .tc main_v100_0) = Answer.dyCodes (argDy m c) (argH m c) := by
  refine (W30_arr m ρ c 2).trans ((QuantDy.codes_eq (V29 m ρ) c).trans ?_)
  rw [show QuantDy.inv (V29 m ρ) c = Answer.num (Answer.dyInv (argH m c)) from
    (congrArg only (dy_inv_array m ρ c)).trans (only_shapeCast _),
    show QuantDy.src (V29 m ρ) c = Answer.dyRows (argDy m c) from dy_rows m ρ c]
  rfl

theorem dy_codes_33 : W33 m ρ c (Proc.devRef .tc main_v100_0) = Answer.dyCodes (argDy m c) (argH m c) :=
  (W33_of m ρ c main_v100_0 (by decide)).trans <| (W32_of m ρ c main_v100_0 (by decide +kernel)).trans <|
  (W31_of m ρ c main_v100_0 (by decide)).trans (dy_codes_30 m ρ c)

theorem dy_codes_35 : W35 m ρ c (Proc.devRef .tc main_v100_0) = Answer.dyCodes (argDy m c) (argH m c) :=
  (W35_of m ρ c main_v100_0 (by decide)).trans <| (W34_of m ρ c main_v100_0 (by decide +kernel)).trans (dy_codes_33 m ρ c)

/-! ### The scales where the products take them -/

theorem x_scale_30 : W30 m ρ c (Proc.devRef .tc main_v25) = Answer.xScale (argH m c) :=
  (W30_of m ρ c main_v25 (by decide +kernel)).trans <| (W29_of m ρ c main_v25 (by decide)).trans <|
  (W28_of m ρ c main_v25 (by decide +kernel)).trans <| (W27_of m ρ c main_v25 (by decide)).trans <|
  (W26_of m ρ c main_v25 (by decide +kernel)).trans (x_scale m ρ c)

theorem w_scale_30 : W30 m ρ c (Proc.devRef .tc main_v56) = Answer.wScale (argH m c) :=
  (W30_of m ρ c main_v56 (by decide +kernel)).trans <| (W29_of m ρ c main_v56 (by decide)).trans <|
  (W28_of m ρ c main_v56 (by decide +kernel)).trans <| (W27_of m ρ c main_v56 (by decide)).trans <|
  (W26_of m ρ c main_v56 (by decide +kernel)).trans (w_scale m ρ c)

theorem dy_scale_30 : W30 m ρ c (Proc.devRef .tc main_v87) = Answer.dyScale (argH m c) :=
  (W30_of m ρ c main_v87 (by decide +kernel)).trans <| (W29_of m ρ c main_v87 (by decide)).trans <|
  (W28_of m ρ c main_v87 (by decide +kernel)).trans <| (W27_of m ρ c main_v87 (by decide)).trans <|
  (W26_of m ρ c main_v87 (by decide +kernel)).trans (dy_scale m ρ c)

theorem x_scale_32 : W32 m ρ c (Proc.devRef .tc main_v25) = Answer.xScale (argH m c) :=
  (W32_of m ρ c main_v25 (by decide +kernel)).trans <| (W31_of m ρ c main_v25 (by decide)).trans (x_scale_30 m ρ c)

theorem w_scale_32 : W32 m ρ c (Proc.devRef .tc main_v56) = Answer.wScale (argH m c) :=
  (W32_of m ρ c main_v56 (by decide +kernel)).trans <| (W31_of m ρ c main_v56 (by decide)).trans (w_scale_30 m ρ c)

theorem dy_scale_32 : W32 m ρ c (Proc.devRef .tc main_v87) = Answer.dyScale (argH m c) :=
  (W32_of m ρ c main_v87 (by decide +kernel)).trans <| (W31_of m ρ c main_v87 (by decide)).trans (dy_scale_30 m ρ c)

theorem x_scale_34 : W34 m ρ c (Proc.devRef .tc main_v25) = Answer.xScale (argH m c) :=
  (W34_of m ρ c main_v25 (by decide +kernel)).trans <| (W33_of m ρ c main_v25 (by decide)).trans (x_scale_32 m ρ c)

theorem w_scale_34 : W34 m ρ c (Proc.devRef .tc main_v56) = Answer.wScale (argH m c) :=
  (W34_of m ρ c main_v56 (by decide +kernel)).trans <| (W33_of m ρ c main_v56 (by decide)).trans (w_scale_32 m ρ c)

theorem dy_scale_34 : W34 m ρ c (Proc.devRef .tc main_v87) = Answer.dyScale (argH m c) :=
  (W34_of m ρ c main_v87 (by decide +kernel)).trans <| (W33_of m ρ c main_v87 (by decide)).trans (dy_scale_32 m ρ c)

/-! ### The products -/

/-- The one entry of a product of two scalars made an array of one. -/
theorem only_mulf (a b : FVec Ideal S_ .f32) :
    only (shapeCast S1 (mulf a b) shapeCasts_S_S1) = Answer.num a * Answer.num b := only_shapeCast (mulf a b)

theorem y_scale : W31 m ρ c (Proc.devRef .tc main_v102)
    = shapeCast S1 (mulf (Answer.xScale (argH m c)) (Answer.wScale (argH m c))) shapeCasts_S_S1 := by
  after_reads_simp
  rw [x_scale_30 m ρ c, w_scale_30 m ρ c]
  rfl

theorem dx_scale : W33 m ρ c (Proc.devRef .tc main_v105)
    = shapeCast S1 (mulf (Answer.dyScale (argH m c)) (Answer.wScale (argH m c))) shapeCasts_S_S1 := by
  after_reads_simp
  rw [dy_scale_32 m ρ c, w_scale_32 m ρ c]
  rfl

theorem dw_scale : W35 m ρ c (Proc.devRef .tc main_v108)
    = shapeCast S1 (mulf (Answer.xScale (argH m c)) (Answer.dyScale (argH m c))) shapeCasts_S_S1 := by
  after_reads_simp
  rw [x_scale_34 m ρ c, dy_scale_34 m ρ c]
  rfl

theorem y_32 : W32 m ρ c (Proc.devRef .tc main_v103) = Answer.y (argX m c) (argW m c) (argH m c) := by
  refine (W32_arr m ρ c 3).trans ((ProductY.out_eq (V31 m ρ) c).trans ?_)
  rw [show ProductY.scale (V31 m ρ) c = _ from (congrArg only (y_scale m ρ c)).trans (only_mulf _ _),
    show ProductY.lhs (V31 m ρ) c = _ from x_codes_31 m ρ c, show ProductY.rhs (V31 m ρ) c = _ from w_codes_31 m ρ c]
  rfl

theorem dx_34 : W34 m ρ c (Proc.devRef .tc main_v106) = Answer.dx (argW m c) (argDy m c) (argH m c) := by
  refine (W34_arr m ρ c 3).trans ((ProductDx.out_eq (V33 m ρ) c).trans ?_)
  rw [show ProductDx.scale (V33 m ρ) c = _ from (congrArg only (dx_scale m ρ c)).trans (only_mulf _ _),
    show ProductDx.lhs (V33 m ρ) c = _ from dy_codes_33 m ρ c, show ProductDx.rhs (V33 m ρ) c = _ from w_codes_33 m ρ c]
  rfl

theorem dw_36 : W36 m ρ c (Proc.devRef .tc main_v109) = Answer.dw (argX m c) (argDy m c) (argH m c) := by
  refine (W36_arr m ρ c 3).trans ((ProductDw.out_eq (V35 m ρ) c).trans ?_)
  rw [show ProductDw.scale (V35 m ρ) c = _ from (congrArg only (dw_scale m ρ c)).trans (only_mulf _ _),
    show ProductDw.lhs (V35 m ρ) c = _ from x_codes_35 m ρ c, show ProductDw.rhs (V35 m ρ) c = _ from dy_codes_35 m ρ c]
  rfl

/-! ### The largest magnitudes -/

/-- An array of lanes reduced to its largest entry. -/
def lanesMax (l : FVec Ideal S16x128 .f32) : FVec Ideal S_ .f32 :=
  Host.reduce FloatOps.maximumf l (constant S_ .f32 0xFF800000#32) reducesTo_S16x128_S_d0_1 h_S_

instance : Inhabited S6144x15488.Idx := ⟨fun a => ⟨0, by revert a; decide⟩⟩
instance : Inhabited S15488x7424.Idx := ⟨fun a => ⟨0, by revert a; decide⟩⟩
instance : Inhabited S6144x7424.Idx := ⟨fun a => ⟨0, by revert a; decide⟩⟩

theorem x_lanes : lanesMax (W36 m ρ c (Proc.devRef .tc main_v95_1)) = Answer.peak (argX m c) := by
  rw [(W36_of m ρ c main_v95_1 (by decide +kernel)).trans <| (W35_of m ρ c main_v95_1 (by decide)).trans <|
    (W34_of m ρ c main_v95_1 (by decide +kernel)).trans <| (W33_of m ρ c main_v95_1 (by decide)).trans <|
    (W32_of m ρ c main_v95_1 (by decide +kernel)).trans <| (W31_of m ρ c main_v95_1 (by decide)).trans <|
    (W30_of m ρ c main_v95_1 (by decide +kernel)).trans <| (W29_of m ρ c main_v95_1 (by decide)).trans <|
    (W28_of m ρ c main_v95_1 (by decide +kernel)).trans <| (W27_of m ρ c main_v95_1 (by decide)).trans (W26_arr m ρ c 3)]
  refine funext fun j => (reduce_lanes _ _ (QuantX.amax_le (V25 m ρ) c) _ _ rfl j).trans ?_
  rw [show QuantX.src (V25 m ρ) c = Answer.rows (argX m c) from x_rows m ρ c]
  exact largest_shapeCast _ _

theorem w_lanes : lanesMax (W36 m ρ c (Proc.devRef .tc main_v97_1)) = Answer.peak (argW m c) := by
  rw [(W36_of m ρ c main_v97_1 (by decide +kernel)).trans <| (W35_of m ρ c main_v97_1 (by decide)).trans <|
    (W34_of m ρ c main_v97_1 (by decide +kernel)).trans <| (W33_of m ρ c main_v97_1 (by decide)).trans <|
    (W32_of m ρ c main_v97_1 (by decide +kernel)).trans <| (W31_of m ρ c main_v97_1 (by decide)).trans <|
    (W30_of m ρ c main_v97_1 (by decide +kernel)).trans <| (W29_of m ρ c main_v97_1 (by decide)).trans (W28_arr m ρ c 3)]
  refine funext fun j => (reduce_lanes _ _ (QuantW.amax_le (V27 m ρ) c) _ _ rfl j).trans ?_
  rw [show QuantW.src (V27 m ρ) c = argW m c from W27_args m ρ c main_arg1 (by decide)]
  rfl

theorem dy_lanes : lanesMax (W36 m ρ c (Proc.devRef .tc main_v100_1)) = Answer.peak (argDy m c) := by
  rw [(W36_of m ρ c main_v100_1 (by decide +kernel)).trans <| (W35_of m ρ c main_v100_1 (by decide)).trans <|
    (W34_of m ρ c main_v100_1 (by decide +kernel)).trans <| (W33_of m ρ c main_v100_1 (by decide)).trans <|
    (W32_of m ρ c main_v100_1 (by decide +kernel)).trans <| (W31_of m ρ c main_v100_1 (by decide)).trans (W30_arr m ρ c 3)]
  refine funext fun j => (reduce_lanes _ _ (QuantDy.amax_le (V29 m ρ) c) _ _ rfl j).trans ?_
  rw [show QuantDy.src (V29 m ρ) c = Answer.dyRows (argDy m c) from dy_rows m ρ c]
  exact largest_shapeCast _ _

end Cert.Proof.KernelValue
end
-- ==== Proof.KernelResults.lean ====
/-
  The kernel's ten results: what each result array holds when the last host operation has run, and that every execution
  ends so.
-/
module

public import proofs.«01_k».proof.Proof.KernelValue

@[expose] public section

noncomputable section

open Idealize.ShloMosaic Idealize.ShloMosaic.TcCoe Idealize.SL.Sem

namespace Cert.Proof.KernelResults

open Cert.KernelIdeal Cert.KernelIdeal.Gen Cert.Proof.KernelScales Cert.Proof.KernelValue

variable (m : (ℓ : Loc nD τ sig) → Buf (Elt Ideal) ℓ) (ρ : Dev nD → PrngReg) (c : Dev nD)

/-! ### The arrays as the last region leaves them -/

theorem y_36 : W36 m ρ c (Proc.devRef .tc main_v103) = Answer.y (argX m c) (argW m c) (argH m c) :=
  (W36_of m ρ c main_v103 (by decide +kernel)).trans <| (W35_of m ρ c main_v103 (by decide)).trans <|
  (W34_of m ρ c main_v103 (by decide +kernel)).trans <| (W33_of m ρ c main_v103 (by decide)).trans (y_32 m ρ c)

theorem dx_36 : W36 m ρ c (Proc.devRef .tc main_v106) = Answer.dx (argW m c) (argDy m c) (argH m c) :=
  (W36_of m ρ c main_v106 (by decide +kernel)).trans <| (W35_of m ρ c main_v106 (by decide)).trans (dx_34 m ρ c)

theorem x_codes_36 : W36 m ρ c (Proc.devRef .tc main_v95_0) = Answer.xCodes (argX m c) (argH m c) :=
  (W36_of m ρ c main_v95_0 (by decide +kernel)).trans (x_codes_35 m ρ c)

theorem w_codes_36 : W36 m ρ c (Proc.devRef .tc main_v97_0) = Answer.wCodes (argW m c) (argH m c) :=
  (W36_of m ρ c main_v97_0 (by decide +kernel)).trans <| (W35_of m ρ c main_v97_0 (by decide)).trans <|
  (W34_of m ρ c main_v97_0 (by decide +kernel)).trans (w_codes_33 m ρ c)

theorem dy_codes_36 : W36 m ρ c (Proc.devRef .tc main_v100_0) = Answer.dyCodes (argDy m c) (argH m c) :=
  (W36_of m ρ c main_v100_0 (by decide +kernel)).trans (dy_codes_35 m ρ c)

theorem x_scale_36 : W36 m ρ c (Proc.devRef .tc main_v25) = Answer.xScale (argH m c) :=
  (W36_of m ρ c main_v25 (by decide +kernel)).trans <| (W35_of m ρ c main_v25 (by decide)).trans (x_scale_34 m ρ c)

theorem w_scale_36 : W36 m ρ c (Proc.devRef .tc main_v56) = Answer.wScale (argH m c) :=
  (W36_of m ρ c main_v56 (by decide +kernel)).trans <| (W35_of m ρ c main_v56 (by decide)).trans (w_scale_34 m ρ c)

theorem dy_scale_36 : W36 m ρ c (Proc.devRef .tc main_v87) = Answer.dyScale (argH m c) :=
  (W36_of m ρ c main_v87 (by decide +kernel)).trans <| (W35_of m ρ c main_v87 (by decide)).trans (dy_scale_34 m ρ c)

/-! ### The results -/

theorem y : W39 m ρ c (Proc.devRef .tc main_v123)
    = shapeCast S3x2048x7424 (Answer.y (argX m c) (argW m c) (argH m c)) shapeCasts_S6144x7424_S3x2048x7424 := by
  after_reads_simp
  rw [y_36 m ρ c]
  rfl

theorem dx : W39 m ρ c (Proc.devRef .tc main_v124)
    = shapeCast S3x2048x15488 (Answer.dx (argW m c) (argDy m c) (argH m c)) shapeCasts_S6144x15488_S3x2048x15488 := by
  after_reads_simp
  rw [dx_36 m ρ c]
  rfl

theorem dw : W39 m ρ c (Proc.devRef .tc main_v109) = Answer.dw (argX m c) (argDy m c) (argH m c) := by
  after_reads_simp
  exact dw_36 m ρ c

theorem x_codes : W39 m ρ c (Proc.devRef .tc main_v125)
    = shapeCast S3x2048x15488 (Answer.xCodes (argX m c) (argH m c)) shapeCasts_S6144x15488_S3x2048x15488 := by
  after_reads_simp
  rw [x_codes_36 m ρ c]
  rfl

theorem x_scale : W39 m ρ c (Proc.devRef .tc main_v25) = Answer.xScale (argH m c) := by
  after_reads_simp
  exact x_scale_36 m ρ c

theorem w_codes : W39 m ρ c (Proc.devRef .tc main_v97_0) = Answer.wCodes (argW m c) (argH m c) := by
  after_reads_simp
  exact w_codes_36 m ρ c

theorem w_scale : W39 m ρ c (Proc.devRef .tc main_v56) = Answer.wScale (argH m c) := by
  after_reads_simp
  exact w_scale_36 m ρ c

theorem dy_codes : W39 m ρ c (Proc.devRef .tc main_v126)
    = shapeCast S3x2048x7424 (Answer.dyCodes (argDy m c) (argH m c)) shapeCasts_S6144x7424_S3x2048x7424 := by
  after_reads_simp
  rw [dy_codes_36 m ρ c]
  rfl

theorem dy_scale : W39 m ρ c (Proc.devRef .tc main_v87) = Answer.dyScale (argH m c) := by
  after_reads_simp
  exact dy_scale_36 m ρ c

theorem x_peak_37 : StableHlo.upto hostOps6 (W36 m ρ c) 9 (Proc.devRef .tc main_v113) = Answer.one (Answer.peak (argX m c)) := by
  rw [← x_lanes m ρ c]
  after_reads_simp
  rfl

theorem w_peak_37 : StableHlo.upto hostOps6 (W36 m ρ c) 9 (Proc.devRef .tc main_v114) = Answer.one (Answer.peak (argW m c)) := by
  rw [← w_lanes m ρ c]
  after_reads_simp
  rfl

theorem dy_peak_37 : StableHlo.upto hostOps6 (W36 m ρ c) 9 (Proc.devRef .tc main_v115) = Answer.one (Answer.peak (argDy m c)) := by
  rw [← dy_lanes m ρ c]
  after_reads_simp
  rfl

theorem newHistory : W39 m ρ c (Proc.devRef .tc main_v122)
    = Answer.newHistory (argX m c) (argW m c) (argDy m c) (argH m c) (argN m c) := by
  after_reads_simp
  simp -implicitDefEqProofs only [StableHlo.TRef.toBuf, StableHlo.TRef.ofBuf, cast_cast, cast_eq]
  clean_types
  rw [show W36 m ρ c (Proc.devRef .tc main_arg3) = argH m c from W36_args m ρ c main_arg3 (by decide),
    show W36 m ρ c (Proc.devRef .tc main_arg4) = argN m c from W36_args m ρ c main_arg4 (by decide)]
  unfold Answer.newHistory Answer.history
  rw [← x_peak_37 m ρ c, ← w_peak_37 m ρ c, ← dy_peak_37 m ρ c]
  rfl

end Cert.Proof.KernelResults
end
-- ==== Proof.KernelRun.lean ====
/-
  Every execution of the kernel ends with its ten result arrays at the answer and its arguments as launched.
-/
module

public import proofs.«01_k».proof.Proof.KernelResults

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.Proof.KernelRun

open Cert.KernelIdeal Cert.KernelIdeal.Gen Cert.Proof.KernelScales Cert.Proof.KernelResults

section

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The launch over the program's segments: every buffer ends at the contents after the last one. -/
theorem launch : θ_run defs (onTc (τ := τ) (main (F := F))) ⟨m, fun _ => 0, ρ⟩ (fun r =>
      (∀ c : Dev nD, ∀ b ∈ Pipeline.ucRefs τ sig, r.2.mem (((c : Thread nD τ)).1, b) = W39 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W39 m ρ c b)
    (hfin := fun c s' => by
      iintro ⟨⟨Hh, -⟩, HSI⟩
      unfold StableHlo.held
      imodintro
      iapply (pointsTo_read_all (Pipeline.ucRefs τ sig) (fun b => (((c : Thread nD τ)).1, b)) (W39 m ρ c) s')
      isplitl [Hh] <;> iassumption)
    (hQ := fun s h hz => ⟨h, funext fun g => hz g (.inr (no_unscoped g.2))⟩)

end

variable (m : (ℓ : Loc nD τ sig) → Buf (Elt Ideal) ℓ) (ρ : Dev nD → PrngReg)

/-- The result arrays of the last state, read. -/
theorem run : θ_run defs (onTc (τ := τ) (main (F := Ideal))) ⟨m, fun _ => 0, ρ⟩ (fun r => ∀ c : Dev nD,
      r.2.mem ((c.tc : Thread nD τ).loc main_v123) = shapeCast S3x2048x7424 (Answer.y (argX m c) (argW m c) (argH m c)) shapeCasts_S6144x7424_S3x2048x7424
      ∧ r.2.mem ((c.tc : Thread nD τ).loc main_v124) = shapeCast S3x2048x15488 (Answer.dx (argW m c) (argDy m c) (argH m c)) shapeCasts_S6144x15488_S3x2048x15488
      ∧ r.2.mem ((c.tc : Thread nD τ).loc main_v109) = Answer.dw (argX m c) (argDy m c) (argH m c)
      ∧ r.2.mem ((c.tc : Thread nD τ).loc main_v125) = shapeCast S3x2048x15488 (Answer.xCodes (argX m c) (argH m c)) shapeCasts_S6144x15488_S3x2048x15488
      ∧ r.2.mem ((c.tc : Thread nD τ).loc main_v25) = Answer.xScale (argH m c)
      ∧ r.2.mem ((c.tc : Thread nD τ).loc main_v97_0) = Answer.wCodes (argW m c) (argH m c)
      ∧ r.2.mem ((c.tc : Thread nD τ).loc main_v56) = Answer.wScale (argH m c)
      ∧ r.2.mem ((c.tc : Thread nD τ).loc main_v126) = shapeCast S3x2048x7424 (Answer.dyCodes (argDy m c) (argH m c)) shapeCasts_S6144x7424_S3x2048x7424
      ∧ r.2.mem ((c.tc : Thread nD τ).loc main_v87) = Answer.dyScale (argH m c)
      ∧ r.2.mem ((c.tc : Thread nD τ).loc main_v122) = Answer.newHistory (argX m c) (argW m c) (argDy m c) (argH m c) (argN m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h.1 c _ (mem_uc main_v123 (by decide))).trans (KernelResults.y m ρ c),
       (h.1 c _ (mem_uc main_v124 (by decide))).trans (KernelResults.dx m ρ c),
       (h.1 c _ (mem_uc main_v109 (by decide))).trans (KernelResults.dw m ρ c),
       (h.1 c _ (mem_uc main_v125 (by decide))).trans (KernelResults.x_codes m ρ c),
       (h.1 c _ (mem_uc main_v25 (by decide))).trans (KernelResults.x_scale m ρ c),
       (h.1 c _ (mem_uc main_v97_0 (by decide))).trans (KernelResults.w_codes m ρ c),
       (h.1 c _ (mem_uc main_v56 (by decide))).trans (KernelResults.w_scale m ρ c),
       (h.1 c _ (mem_uc main_v126 (by decide))).trans (KernelResults.dy_codes m ρ c),
       (h.1 c _ (mem_uc main_v87 (by decide))).trans (KernelResults.dy_scale m ρ c),
       (h.1 c _ (mem_uc main_v122 (by decide))).trans (KernelResults.newHistory m ρ c),
       (h.1 c _ (mem_uc main_arg0 (by decide))).trans (W39_main_arg0 m ρ c),
       (h.1 c _ (mem_uc main_arg1 (by decide))).trans (W39_main_arg1 m ρ c),
       (h.1 c _ (mem_uc main_arg2 (by decide))).trans (W39_main_arg2 m ρ c),
       (h.1 c _ (mem_uc main_arg3 (by decide))).trans (W39_main_arg3 m ρ c),
       (h.1 c _ (mem_uc main_arg4 (by decide))).trans (W39_main_arg4 m ρ c)⟩) (launch m ρ)

end Cert.Proof.KernelRun
end
-- ==== Proof.Powers.lean ====
/-
  Powers of two and exponents, told in two ways: a power of two as a float's bits and as a power of the real number two;
  an exponent as the count of the powers of two that a magnitude reaches, and as the one e of a range with the magnitude
  in [2^(e-1), 2^e).
-/
module

public import proofs.«01_k».proof.Proof.Tile
public import Idealize.ShloMosaic.Lib.IdealHost
public import Mathlib.Data.BitVec

@[expose] public section

noncomputable section

open Idealize.ShloMosaic

namespace Cert.Proof.Powers

/-! ### A power of two -/

/-- The number two to the e is: zero below 2^-126, infinite from 2^128 on. -/
def twoTo (k : ℤ) : EReal := if 127 < k then ⊤ else if k < -126 then 0 else (((2 : ℝ) ^ k : ℝ) : EReal)

/-- By its bits, the biased exponent kept in the range of a float's. -/
def byBits (e : BitVec 32) : EReal :=
  Ideal.ofBits .f32 (IntOp.shli .host (IntOp.addi (IntOp.minsi 128#32 (IntOp.maxsi 4294967169#32 e)) 127#32) 23#32)

/-- As a power of the number two. -/
def byPower (e : BitVec 32) : EReal :=
  Scalar.select (IntOp.cmpi .sgt e 127#32) (Ideal.ofBits .f32 0x7F800000#32)
    (Scalar.select (IntOp.cmpi .slt e 4294967170#32) (Ideal.ofBits .f32 0x00000000#32)
      (Ideal.pow (Ideal.ofBits .f32 0x40000000#32) (((e.toInt : ℤ) : ℝ) : EReal)))

theorem infinity : Ideal.ofBits .f32 0x7F800000#32 = ⊤ := by simp [Ideal.ofBits, Ideal.ieee]

theorem number_two : Ideal.ofBits .f32 0x40000000#32 = ((2 : ℝ) : EReal) := by
  simp [Ideal.ofBits, Ideal.ieee, -EReal.coe_mul]; norm_num

/-- A float whose fraction and sign are zero. -/
theorem ofBits_biased (n : Fin 256) :
    Ideal.ofBits .f32 (IntOp.shli .host (BitVec.ofNat 32 n.val) 23#32) = twoTo ((n.val : ℤ) - 127) := by
  have h : ∀ n : Fin 256, (IntOp.shli .host (BitVec.ofNat 32 n.val) 23#32).extractLsb' 31 1 = 0#1
      ∧ ((IntOp.shli .host (BitVec.ofNat 32 n.val) 23#32).extractLsb' 23 8).toNat = n.val
      ∧ ((IntOp.shli .host (BitVec.ofNat 32 n.val) 23#32).extractLsb' 0 23).toNat = 0 := by decide +kernel
  obtain ⟨h1, h2, h3⟩ := h n
  unfold Ideal.ofBits Ideal.ieee
  show (let neg : Bool := ((IntOp.shli .host (BitVec.ofNat 32 n.val) 23#32).extractLsb' 31 1 == 1#1); _) = _
  simp only [h1, h2, h3]
  have := n.isLt
  unfold twoTo
  by_cases c : n.val = 255
  · simp [c]
  · have c' : ¬ n.val = 2 ^ 8 - 1 := c
    have k : ¬ 127 < (n.val : ℤ) - 127 := by omega
    rw [if_neg c', if_neg k]
    by_cases d : n.val = 0
    · simp [d]
    · have k' : ¬ (n.val : ℤ) - 127 < -126 := by omega
      rw [if_neg d, if_neg k']
      have e : 23 + ((n.val : ℤ) - (2 ^ (8 - 1) - 1) - (23 : ℕ)) = (n.val : ℤ) - 127 := by push_cast; ring
      have f : (if (0#1 == 1#1) = true then (-1 : ℝ) else 1) = 1 := if_neg (by decide)
      have g : (((2 ^ 23 + 0 : ℕ) : ℕ) : ℝ) = (2 : ℝ) ^ (23 : ℤ) := by norm_num
      rw [f, one_mul, g, ← zpow_add₀ (by norm_num : (2 : ℝ) ≠ 0), e]

/-- The bits stand for the power. -/
theorem byBits_eq (e : BitVec 32) : byBits e = twoTo e.toInt := by
  have hlo := e.le_toInt
  have hhi := e.toInt_lt
  unfold byBits
  have key : ∃ n : Fin 256, IntOp.addi (IntOp.minsi 128#32 (IntOp.maxsi 4294967169#32 e)) 127#32 = BitVec.ofNat 32 n.val
      ∧ twoTo ((n.val : ℤ) - 127) = twoTo e.toInt := by
    have l : (4294967169#32).toInt = -127 := by decide
    have u : (128#32).toInt = 128 := by decide
    unfold IntOp.addi IntOp.minsi IntOp.maxsi
    by_cases c : e.toInt < -127
    · have q : e.slt 4294967169#32 = true := by rw [BitVec.slt_iff_toInt_lt]; omega
      refine ⟨⟨0, by omega⟩, ?_, ?_⟩
      · simp only [q, if_true]
        rfl
      · unfold twoTo
        rw [if_neg (by norm_num), if_pos (by norm_num), if_neg (by omega), if_pos (by omega)]
    · have q : e.slt 4294967169#32 = false := by rw [Bool.eq_false_iff, Ne, BitVec.slt_iff_toInt_lt]; omega
      by_cases d : 128 < e.toInt
      · have q' : (128#32).slt e = true := by rw [BitVec.slt_iff_toInt_lt]; omega
        refine ⟨⟨255, by omega⟩, ?_, ?_⟩
        · simp only [q, q', Bool.false_eq_true, if_false, if_true]
          rfl
        · unfold twoTo
          rw [if_pos (by norm_num), if_pos (by omega)]
      · have q' : (128#32).slt e = false := by rw [Bool.eq_false_iff, Ne, BitVec.slt_iff_toInt_lt]; omega
        refine ⟨⟨(e.toInt + 127).toNat, by omega⟩, ?_, ?_⟩
        · simp only [q, q', Bool.false_eq_true, if_false]
          refine BitVec.eq_of_toNat_eq ?_
          have t := BitVec.toInt_eq_toNat_cond e
          rw [BitVec.toNat_add, BitVec.toNat_ofNat, BitVec.toNat_ofNat]
          have := e.isLt
          split at t <;> omega
        · congr 1
          show (((e.toInt + 127).toNat : ℕ) : ℤ) - 127 = _
          omega
  obtain ⟨n, h, h'⟩ := key
  rw [h, ofBits_biased, h']

/-- So does the power. -/
theorem byPower_eq (e : BitVec 32) : byPower e = twoTo e.toInt := by
  have l : (4294967170#32).toInt = -126 := by decide
  have u : (127#32).toInt = 127 := by decide
  have z : Ideal.ofBits .f32 0x00000000#32 = (0 : EReal) := by simp [Ideal.ofBits, Ideal.ieee]
  unfold byPower twoTo Scalar.select IntOp.cmpi
  rw [infinity, number_two, z]
  by_cases c : 127 < e.toInt
  · have h : (127#32).slt e = true := by rw [BitVec.slt_iff_toInt_lt]; omega
    simp [h, c]
  · have h : (127#32).slt e = false := by rw [Bool.eq_false_iff, Ne, BitVec.slt_iff_toInt_lt]; omega
    by_cases d : e.toInt < -126
    · have h' : e.slt 4294967170#32 = true := by rw [BitVec.slt_iff_toInt_lt]; omega
      simp [h, h', c, d]
    · have h' : e.slt 4294967170#32 = false := by rw [Bool.eq_false_iff, Ne, BitVec.slt_iff_toInt_lt]; omega
      have p : Ideal.pow ((2 : ℝ) : EReal) (((e.toInt : ℤ) : ℝ) : EReal) = (((2 : ℝ) ^ e.toInt : ℝ) : EReal) := by
        show ((Real.rpow 2 (e.toInt : ℝ) : ℝ) : EReal) = _
        exact congrArg _ (Real.rpow_intCast 2 e.toInt)
      simp [h, h', c, d, p]

/-- The powers grow with the exponent. -/
theorem twoTo_mono {a b : ℤ} (h : a ≤ b) : twoTo a ≤ twoTo b := by
  unfold twoTo
  by_cases c : 127 < b
  · rw [if_pos c]; exact le_top
  · rw [if_neg c, if_neg (by omega)]
    by_cases d : a < -126
    · rw [if_pos d]
      split
      · exact le_rfl
      · exact EReal.coe_nonneg.mpr (by positivity)
    · rw [if_neg d, if_neg (by omega)]
      exact EReal.coe_le_coe_iff.mpr (zpow_le_zpow_right₀ (by norm_num) h)

/-! ### An exponent -/

/-- Of a growing list of powers, those that a number reaches are the first n. -/
theorem reached_first (a : EReal) (N : ℕ) : ∃ n ≤ N, ∀ i < N, twoTo ((i : ℤ) - 126) ≤ a ↔ i < n := by
  induction N with
  | zero => exact ⟨0, le_rfl, fun i h => absurd h (by omega)⟩
  | succ N ih =>
    by_cases c : twoTo ((N : ℤ) - 126) ≤ a
    · exact ⟨N + 1, le_rfl, fun i h => ⟨fun _ => h, fun _ => (twoTo_mono (by omega)).trans c⟩⟩
    · obtain ⟨n, hn, h⟩ := ih
      refine ⟨n, by omega, fun i hi => ?_⟩
      rcases Nat.lt_succ_iff_lt_or_eq.1 hi with q | q
      · exact h i q
      · subst q
        exact ⟨fun r => absurd r c, fun r => absurd r (by omega)⟩

/-- The count of those a number reaches of 2^-126, …, 2^128. -/
def count (a : EReal) : BitVec 32 := ∑ i : Fin 255, if twoTo ((i.val : ℤ) - 126) ≤ a then 1#32 else 0#32

/-- The sum of the exponents e from -125 to 128 with the number in [2^(e-1), 2^e): one e, or none. -/
def only (a : EReal) : BitVec 32 :=
  ∑ i : Fin 254, if twoTo ((i.val : ℤ) - 126) ≤ a ∧ a < twoTo ((i.val : ℤ) - 125) then 4294967171#32 + BitVec.ofNat 32 i.val else 0#32

/-- The count and the exponent: the exponent is the count less 126, or zero where the count is none or all. -/
theorem only_eq (a : EReal) :
    only a = if count a = 0#32 ∨ count a = 255#32 then 0#32 else count a - 126#32 := by
  obtain ⟨n, hn, h⟩ := reached_first a 255
  have hc : count a = BitVec.ofNat 32 n := by
    have e : count a = ∑ i : Fin 255, if i.val < n then 1#32 else 0#32 :=
      Finset.sum_congr rfl fun i _ => if_congr (h i.val i.isLt) rfl rfl
    rw [e]
    clear h e
    have all : ∀ n : Fin 256, (∑ i : Fin 255, if i.val < n.val then 1#32 else 0#32) = BitVec.ofNat 32 n.val := by
      decide +kernel
    exact all ⟨n, by omega⟩
  have ho : only a = ∑ i : Fin 254, if i.val + 1 = n then 4294967171#32 + BitVec.ofNat 32 i.val else 0#32 := by
    refine Finset.sum_congr rfl fun i _ => if_congr ?_ rfl rfl
    have b := h i.val (by omega)
    have d := h (i.val + 1) (by omega)
    have e : (((i.val + 1 : ℕ) : ℤ) - 126) = (i.val : ℤ) - 125 := by push_cast; ring
    rw [e] at d
    have f : a < twoTo ((i.val : ℤ) - 125) ↔ ¬ i.val + 1 < n := by rw [← d, not_le]
    rw [b, f]
    omega
  rw [hc, ho]
  clear hc ho h
  have all : ∀ n : Fin 256, (∑ i : Fin 254, if i.val + 1 = n.val then 4294967171#32 + BitVec.ofNat 32 i.val else 0#32)
      = if BitVec.ofNat 32 n.val = 0#32 ∨ BitVec.ofNat 32 n.val = 255#32 then 0#32 else BitVec.ofNat 32 n.val - 126#32 := by
    decide +kernel
  exact all ⟨n, by omega⟩

/-! ### Sums of a whole row -/

/-- The host's sum of a row of words from zero. -/
theorem reduce_row {N : ℕ} {t u : Shape} {axes : List (Fin (⟨1, ![N]⟩ : Shape).rank)} (x : (⟨1, ![N]⟩ : Shape).Idx → BitVec 32)
    (init : u.Idx → BitVec 32) (h : (⟨1, ![N]⟩ : Shape).ReducesTo axes t) (hu : 0 < u.numel) (ht : t.rank = 0) (j : t.Idx)
    (h0 : init (Shape.Idx.first hu) = 0#32) :
    Host.reduce IntOp.addi x init h hu j = ∑ i : Fin N, x (ValueIdx.ix1 i) := by
  have all : ∀ i : (⟨1, ![N]⟩ : Shape).Idx, h.drop i = j := fun i => funext fun a => absurd a.isLt (by omega)
  have comm : Std.Commutative (IntOp.addi : BitVec 32 → BitVec 32 → BitVec 32) := ⟨BitVec.add_comm⟩
  have assoc : Std.Associative (IntOp.addi : BitVec 32 → BitVec 32 → BitVec 32) := ⟨BitVec.add_assoc⟩
  rw [Host.reduce_eq_fold, h0, Finset.filter_true_of_mem (fun i _ => all i)]
  show Finset.univ.sum x = _
  exact (Fintype.sum_equiv ⟨fun i : Fin N => ValueIdx.ix1 i, fun i => i 0, fun _ => rfl, fun i => (ValueIdx.eq_ix1 i).symm⟩ _ _
    fun _ => rfl).symm

end Cert.Proof.Powers
end
-- ==== Proof.ReferenceExponent.lean ====
/-
  The reference's powers of two and exponents, and that they are the kernel's: a power of the number two is the float of
  the kernel's bits, and the one exponent of a range is the kernel's count less 126.
-/
module

public import proofs.«01_k».proof.Proof.Gen.ReferenceIdeal
public import proofs.«01_k».proof.Proof.Answer
public import proofs.«01_k».proof.Proof.Powers

@[expose] public section

noncomputable section

open Idealize.ShloMosaic

namespace Cert.Proof.ReferenceExponent

open Cert.ReferenceIdeal Cert.ReferenceIdeal.Gen

/-- Two to each of an array of exponents. -/
def powers (e : IVec S254 32) : FVec Ideal S254 .f32 :=
  select (cmpi .sgt e (broadcastInDim S254 ![] bcast_S_S254 (constantI S_ 32 127#32)))
    (broadcastInDim S254 ![] bcast_S_S254 (constant S_ .f32 0x7F800000#32))
    (select (cmpi .slt e (broadcastInDim S254 ![] bcast_S_S254 (constantI S_ 32 4294967170#32)))
      (broadcastInDim S254 ![] bcast_S_S254 (constant S_ .f32 0x00000000#32))
      (Host.powf (broadcastInDim S254 ![] bcast_S_S254 (constant S_ .f32 0x40000000#32)) (sitofp .f32 e)))

/-- Two to one exponent. -/
def power (e : IVec S_ 32) : FVec Ideal S_ .f32 :=
  select (cmpi .sgt e (constantI S_ 32 127#32)) (constant S_ .f32 0x7F800000#32)
    (select (cmpi .slt e (constantI S_ 32 4294967170#32)) (constant S_ .f32 0x00000000#32)
      (Host.powf (constant S_ .f32 0x40000000#32) (sitofp .f32 e)))

/-- The exponents from -125 to 128. -/
def exponents : IVec S254 32 :=
  addi (broadcastInDim S254 ![] bcast_S_S254 (constantI S_ 32 4294967171#32)) (iotaInDim S254 32 0)

/-- Where the number's magnitude lies between the power before and the power. -/
def isIt (v : FVec Ideal S_ .f32) : IVec S254 1 :=
  andi (cmpf .ole (powers (subi exponents (broadcastInDim S254 ![] bcast_S_S254 (constantI S_ 32 1#32))))
      (broadcastInDim S254 ![] bcast_S_S254 (Host.absf v)))
    (cmpf .olt (broadcastInDim S254 ![] bcast_S_S254 (Host.absf v)) (powers exponents))

/-- The exponent of `a * c`, zero when `a` is zero. -/
def exponent (k : BitVec 32) (a : FVec Ideal S_ .f32) : IVec S_ 32 :=
  select (cmpf .oeq a (constant S_ .f32 0x00000000#32)) (constantI S_ 32 0#32)
    (Host.reduce IntOp.addi
      (select (isIt (mulf a (constant S_ .f32 k))) exponents (broadcastInDim S254 ![] bcast_S_S254 (constantI S_ 32 0#32)))
      (constantI S_ 32 0#32) reducesTo_S254_S_d0 h_S_)

/-- The power is the float of those bits. -/
theorem power_eq (e : IVec S_ 32) : power e = Scale.two e :=
  funext fun i => (Powers.byPower_eq (e i)).trans (Powers.byBits_eq (e i)).symm

theorem powers_at (e : IVec S254 32) (i : S254.Idx) : powers e i = Powers.twoTo (e i).toInt := Powers.byPower_eq (e i)

theorem upper_at (i : Fin 254) : powers exponents (ValueIdx.ix1 i) = Powers.twoTo ((i.val : ℤ) - 125) := by
  have h : ∀ i : Fin 254, (4294967171#32 + BitVec.ofNat 32 i.val).toInt = (i.val : ℤ) - 125 := by decide +kernel
  rw [powers_at]
  exact congrArg Powers.twoTo (h i)

theorem lower_at (i : Fin 254) :
    powers (subi exponents (broadcastInDim S254 ![] bcast_S_S254 (constantI S_ 32 1#32))) (ValueIdx.ix1 i)
      = Powers.twoTo ((i.val : ℤ) - 126) := by
  have h : ∀ i : Fin 254, (4294967171#32 + BitVec.ofNat 32 i.val - 1#32).toInt = (i.val : ℤ) - 126 := by decide +kernel
  rw [powers_at]
  exact congrArg Powers.twoTo (h i)

/-- The kernel's table holds the powers from 2^-126 on. -/
theorem steps_at (i : Fin 255) : Scale.steps (ValueIdx.ix1 i) = Powers.twoTo ((i.val : ℤ) - 126) := by
  have h : ∀ i : Fin 255, IntOp.addi 1#32 (BitVec.ofNat 32 i.val) = BitVec.ofNat 32 (i.val + 1) := by decide +kernel
  have e : Scale.steps (ValueIdx.ix1 i)
      = Ideal.ofBits .f32 (IntOp.shli .host (IntOp.addi 1#32 (BitVec.ofNat 32 i.val)) 23#32) := rfl
  rw [e, h]
  refine (Powers.ofBits_biased ⟨i.val + 1, by omega⟩).trans (congrArg Powers.twoTo ?_)
  show ((i.val + 1 : ℕ) : ℤ) - 127 = _
  push_cast
  ring

/-- The magnitude of a scalar's number. -/
def magnitude (v : FVec Ideal S_ .f32) : EReal := max (Answer.num v) (-(Answer.num v))

/-- The kernel's count. -/
theorem reached_eq (v : FVec Ideal S_ .f32) (j : S_.Idx) : Scale.reached Scale.steps v j = Powers.count (magnitude v) := by
  unfold Scale.reached
  rw [Powers.reduce_row _ _ _ _ rfl j rfl]
  refine Finset.sum_congr rfl fun i _ => ?_
  have e : cmpf .oge (broadcastInDim Cert.KernelIdeal.S255 ![] Cert.KernelIdeal.Gen.bcast_S_S255 (Host.absf v)) Scale.steps (ValueIdx.ix1 i)
      = BitVec.ofBool (decide (Powers.twoTo ((i.val : ℤ) - 126) ≤ magnitude v)) := by
    rw [← steps_at]
    have z : broadcastInDim Cert.KernelIdeal.S255 ![] Cert.KernelIdeal.Gen.bcast_S_S255 (Host.absf v) (ValueIdx.ix1 i) = magnitude v :=
      (ValueIdx.broadcastInDim_scalar_apply _ _ _).trans (congrArg (Host.absf v) (funext fun a => a.elim0))
    rw [← z]
    rfl
  show BitVec.setWidth 32 (cmpf .oge (broadcastInDim Cert.KernelIdeal.S255 ![] Cert.KernelIdeal.Gen.bcast_S_S255 (Host.absf v)) Scale.steps (ValueIdx.ix1 i)) = _
  rw [e]
  by_cases c : Powers.twoTo ((i.val : ℤ) - 126) ≤ magnitude v
  · rw [if_pos c, decide_eq_true c]
    rfl
  · rw [if_neg c, decide_eq_false c]
    rfl

/-- The reference's sum. -/
theorem sum_eq (v : FVec Ideal S_ .f32) (j : S_.Idx) :
    Host.reduce IntOp.addi (select (isIt v) exponents (broadcastInDim S254 ![] bcast_S_S254 (constantI S_ 32 0#32)))
      (constantI S_ 32 0#32) reducesTo_S254_S_d0 h_S_ j = Powers.only (magnitude v) := by
  rw [Powers.reduce_row _ _ _ _ rfl j rfl]
  refine Finset.sum_congr rfl fun i _ => ?_
  have z : broadcastInDim S254 ![] bcast_S_S254 (Host.absf v) (ValueIdx.ix1 i) = magnitude v :=
    (ValueIdx.broadcastInDim_scalar_apply _ _ _).trans (congrArg (Host.absf v) (funext fun a => a.elim0))
  have e : isIt v (ValueIdx.ix1 i) = BitVec.ofBool (decide (Powers.twoTo ((i.val : ℤ) - 126) ≤ magnitude v))
      &&& BitVec.ofBool (decide (magnitude v < Powers.twoTo ((i.val : ℤ) - 125))) := by
    rw [← upper_at, ← lower_at, ← z]
    rfl
  show Scalar.select (isIt v (ValueIdx.ix1 i)) (4294967171#32 + BitVec.ofNat 32 i.val) 0#32 = _
  rw [e]
  by_cases c : Powers.twoTo ((i.val : ℤ) - 126) ≤ magnitude v
  · by_cases d : magnitude v < Powers.twoTo ((i.val : ℤ) - 125)
    · rw [if_pos ⟨c, d⟩, decide_eq_true c, decide_eq_true d]
      rfl
    · rw [if_neg (fun q => d q.2), decide_eq_false d, decide_eq_true c]
      rfl
  · rw [if_neg (fun q => c q.1), decide_eq_false c]
    have w : BitVec.ofBool false &&& BitVec.ofBool (decide (magnitude v < Powers.twoTo ((i.val : ℤ) - 125))) = 0#1 := BitVec.zero_and
    rw [w]
    rfl

/-- The count less 126, or zero where the count is none or all. -/
def pick (n : BitVec 32) : BitVec 32 :=
  Scalar.select (IntOp.ori (IntOp.cmpi .eq n 0#32) (IntOp.cmpi .eq n 255#32)) 0#32 (IntOp.subi n 126#32)

theorem pick_eq (n : BitVec 32) : pick n = if n = 0#32 ∨ n = 255#32 then 0#32 else n - 126#32 := by
  unfold pick
  by_cases c : n = 0#32
  · subst c
    rfl
  · by_cases d : n = 255#32
    · subst d
      rfl
    · rw [if_neg (by simp [c, d])]
      have c' : (n == 0#32) = false := beq_eq_false_iff_ne.2 c
      have d' : (n == 255#32) = false := beq_eq_false_iff_ne.2 d
      simp [Scalar.select, IntOp.ori, IntOp.cmpi, IntOp.subi, c', d']

theorem pick_at (r : IVec S_ 32) (j : S_.Idx) :
    select (ori (cmpi .eq r (constantI S_ 32 0#32)) (cmpi .eq r (constantI S_ 32 255#32)))
      (constantI S_ 32 0#32) (subi r (constantI S_ 32 126#32)) j = pick (r j) := rfl

/-- The two exponents are one. -/
theorem exponent_eq (k : BitVec 32) (a : FVec Ideal S_ .f32) : exponent k a = Scale.exponent Scale.steps k a :=
  congrArg (select (cmpf .oeq a (constant S_ .f32 0x00000000#32)) (constantI S_ 32 0#32))
    (funext fun j => (sum_eq _ j).trans (((Powers.only_eq _).trans (pick_eq _).symm).trans
      ((congrArg pick (reached_eq _ j).symm).trans (pick_at _ j).symm)))

end Cert.Proof.ReferenceExponent
end
-- ==== Proof.ReferenceScales.lean ====
/-
  What the reference's host operations before its launch leave: the same three scales and inverses.
-/
module

public import proofs.«01_k».proof.Proof.Gen.ReferenceIdeal.Frame
public import proofs.«01_k».proof.Proof.Answer
public import proofs.«01_k».proof.Proof.ReferenceExponent
public import Idealize.ShloMosaic.Lib.StableHlo.ReadAt

@[expose] public section

noncomputable section

open Idealize.ShloMosaic Idealize.ShloMosaic.TcCoe Idealize.SL.Sem

namespace Cert.Proof.ReferenceScales

open Cert.ReferenceIdeal Cert.ReferenceIdeal.Gen

variable (m : (ℓ : Loc nD τ sig) → Buf (Elt Ideal) ℓ) (c : Dev nD)

/-- The five arguments. -/
abbrev argX : FVec Ideal S3x2048x15488 .bf16 := m ((c : Thread nD τ).loc main_arg0)
abbrev argW : FVec Ideal S15488x7424 .bf16 := m ((c : Thread nD τ).loc main_arg1)
abbrev argDy : FVec Ideal S3x2048x7424 .bf16 := m ((c : Thread nD τ).loc main_arg2)
abbrev argH : FVec Ideal S3x16 .f32 := m ((c : Thread nD τ).loc main_arg3)
abbrev argN : IVec S_ 32 := m ((c : Thread nD τ).loc main_arg4)

theorem x_scale : V0 m c (Proc.devRef .tc main_v43) = Answer.xScale (argH m c) := by
  unfold Answer.xScale Answer.xExp
  rw [← ReferenceExponent.power_eq, ← ReferenceExponent.exponent_eq]
  after_reads_simp
  simp -implicitDefEqProofs only [StableHlo.TRef.toBuf, StableHlo.TRef.ofBuf, cast_cast, cast_eq]
  clean_types
  rfl

theorem w_scale : V0 m c (Proc.devRef .tc main_v94) = Answer.wScale (argH m c) := by
  unfold Answer.wScale Answer.wExp
  rw [← ReferenceExponent.power_eq, ← ReferenceExponent.exponent_eq]
  after_reads_simp
  simp -implicitDefEqProofs only [StableHlo.TRef.toBuf, StableHlo.TRef.ofBuf, cast_cast, cast_eq]
  clean_types
  rfl

theorem dy_scale : V0 m c (Proc.devRef .tc main_v145) = Answer.dyScale (argH m c) := by
  unfold Answer.dyScale Answer.dyExp
  rw [← ReferenceExponent.power_eq, ← ReferenceExponent.exponent_eq]
  after_reads_simp
  simp -implicitDefEqProofs only [StableHlo.TRef.toBuf, StableHlo.TRef.ofBuf, cast_cast, cast_eq]
  clean_types
  rfl

/-! ### The arrays the launch takes -/

theorem x_scale_array : V0 m c (Proc.devRef .tc main_v153) = shapeCast S1 (Answer.xScale (argH m c)) shapeCasts_S_S1 := by
  unfold Answer.xScale Answer.xExp
  rw [← ReferenceExponent.power_eq, ← ReferenceExponent.exponent_eq]
  after_reads_simp
  simp -implicitDefEqProofs only [StableHlo.TRef.toBuf, StableHlo.TRef.ofBuf, cast_cast, cast_eq]
  clean_types
  rfl

theorem w_scale_array : V0 m c (Proc.devRef .tc main_v154) = shapeCast S1 (Answer.wScale (argH m c)) shapeCasts_S_S1 := by
  unfold Answer.wScale Answer.wExp
  rw [← ReferenceExponent.power_eq, ← ReferenceExponent.exponent_eq]
  after_reads_simp
  simp -implicitDefEqProofs only [StableHlo.TRef.toBuf, StableHlo.TRef.ofBuf, cast_cast, cast_eq]
  clean_types
  rfl

theorem dy_scale_array : V0 m c (Proc.devRef .tc main_v155) = shapeCast S1 (Answer.dyScale (argH m c)) shapeCasts_S_S1 := by
  unfold Answer.dyScale Answer.dyExp
  rw [← ReferenceExponent.power_eq, ← ReferenceExponent.exponent_eq]
  after_reads_simp
  simp -implicitDefEqProofs only [StableHlo.TRef.toBuf, StableHlo.TRef.ofBuf, cast_cast, cast_eq]
  clean_types
  rfl

theorem x_inv_array : V0 m c (Proc.devRef .tc main_v156) = shapeCast S1 (Answer.xInv (argH m c)) shapeCasts_S_S1 := by
  unfold Answer.xInv Answer.xExp
  rw [← ReferenceExponent.power_eq, ← ReferenceExponent.exponent_eq]
  after_reads_simp
  simp -implicitDefEqProofs only [StableHlo.TRef.toBuf, StableHlo.TRef.ofBuf, cast_cast, cast_eq]
  clean_types
  rfl

theorem w_inv_array : V0 m c (Proc.devRef .tc main_v157) = shapeCast S1 (Answer.wInv (argH m c)) shapeCasts_S_S1 := by
  unfold Answer.wInv Answer.wExp
  rw [← ReferenceExponent.power_eq, ← ReferenceExponent.exponent_eq]
  after_reads_simp
  simp -implicitDefEqProofs only [StableHlo.TRef.toBuf, StableHlo.TRef.ofBuf, cast_cast, cast_eq]
  clean_types
  rfl

theorem dy_inv_array : V0 m c (Proc.devRef .tc main_v158) = shapeCast S1 (Answer.dyInv (argH m c)) shapeCasts_S_S1 := by
  unfold Answer.dyInv Answer.dyExp
  rw [← ReferenceExponent.power_eq, ← ReferenceExponent.exponent_eq]
  after_reads_simp
  simp -implicitDefEqProofs only [StableHlo.TRef.toBuf, StableHlo.TRef.ofBuf, cast_cast, cast_eq]
  clean_types
  rfl

theorem x_rows : V0 m c (Proc.devRef .tc main_v159) = Answer.rows (argX m c) := by
  after_reads_simp
  rfl

theorem dy_rows : V0 m c (Proc.devRef .tc main_v160) = Answer.dyRows (argDy m c) := by
  after_reads_simp
  rfl

theorem w_array : V0 m c (Proc.devRef .tc main_arg1) = argW m c := by
  after_reads_simp

end Cert.Proof.ReferenceScales
end
-- ==== Proof.ReferenceValue.lean ====
/-
  What the reference's one launch leaves: each of its six arrays is one whole block, written by one store, so it holds
  that store's value at the whole inputs.
-/
module

public import proofs.«01_k».proof.Proof.ReferenceScales
public import proofs.«01_k».proof.Proof.Tile
public import Idealize.ShloMosaic.Lib.IdealHost
public import Idealize.ShloMosaic.Lib.Pipeline.Covers

@[expose] public section

set_option maxRecDepth 16384

noncomputable section

open Idealize.ShloMosaic Idealize.ShloMosaic.TcCoe Idealize.SL.Sem

namespace Cert.Proof.ReferenceValue

open Cert.ReferenceIdeal Cert.ReferenceIdeal.Gen Cert.Proof.ReferenceScales
open Idealize.ShloMosaic.Pipeline (Dat Cfg Window)

/-! ### The stored values -/

theorem x_codes_value (v : FVec Ideal S6144x15488 .bf16) (s : EReal) : k0_pay4 (F := Ideal) v s = Answer.codes4 s v := by
  unfold k0_pay4
  rw [shapeCast_self]
  rfl

theorem w_codes_value (v : FVec Ideal S15488x7424 .bf16) (s : EReal) : k0_pay5 (F := Ideal) v s = Answer.codes4 s v := rfl

theorem dy_codes_value (v : FVec Ideal S6144x7424 .bf16) (s : EReal) : k0_pay6 (F := Ideal) v s = Answer.codes5 s v := by
  unfold k0_pay6
  rw [shapeCast_self]
  rfl

theorem y_value (a : FVec Ideal S6144x15488 .fp8e4m3) (b : FVec Ideal S15488x7424 .fp8e4m3) (s t : EReal) :
    k0_pay1 (F := Ideal) a b (constant S6144x7424 .f32 0x00000000#32) s t = fun i => mulNN a b i * (s * t) :=
  funext fun i => congrArg (· * (s * t)) (matmul_nn _ rfl a b i)

theorem dx_value (b : FVec Ideal S15488x7424 .fp8e4m3) (d : FVec Ideal S6144x7424 .fp8e5m2) (s t : EReal) :
    k0_pay2 (F := Ideal) b d s t = fun i => mulNT d b i * (s * t) :=
  funext fun i => congrArg (· * (s * t)) (matmul_nt _ rfl d b i)

theorem dw_value (a : FVec Ideal S6144x15488 .fp8e4m3) (d : FVec Ideal S6144x7424 .fp8e5m2) (s t : EReal) :
    k0_pay3 (F := Ideal) a d s t = fun i => mulTN a d i * (s * t) :=
  funext fun i => congrArg (· * (s * t)) (matmul_tn _ rfl rfl rfl rfl rfl rfl a d i)

variable (m : (ℓ : Loc nD τ sig) → Buf (Elt Ideal) ℓ) (c : Dev nD)

/-- The block index of every window is the first. -/
theorem idx : ∀ t : Fin cfg0.N, win0_0.index t = ![0] ∧ win0_1.index t = ![0] ∧ win0_2.index t = ![0]
    ∧ win0_3.index t = ![0] ∧ win0_4.index t = ![0] ∧ win0_5.index t = ![0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] :=
  (by decide +kernel : ∀ t : Fin grid0.N, _)

/-! ### The blocks are the whole arrays -/

theorem blk0 (t : Fin cfg0.N) : iblk m c 0 t = V m c main_v153 := by
  show ((cfg0.win 0).blk t).view.read (Elt Ideal) (V m c main_v153) = _
  generalize V m c main_v153 = v
  blk_ext! [idx t]
theorem blk1 (t : Fin cfg0.N) : iblk m c 1 t = V m c main_v154 := by
  show ((cfg0.win 1).blk t).view.read (Elt Ideal) (V m c main_v154) = _
  generalize V m c main_v154 = v
  blk_ext! [idx t]
theorem blk2 (t : Fin cfg0.N) : iblk m c 2 t = V m c main_v155 := by
  show ((cfg0.win 2).blk t).view.read (Elt Ideal) (V m c main_v155) = _
  generalize V m c main_v155 = v
  blk_ext! [idx t]
theorem blk3 (t : Fin cfg0.N) : iblk m c 3 t = V m c main_v156 := by
  show ((cfg0.win 3).blk t).view.read (Elt Ideal) (V m c main_v156) = _
  generalize V m c main_v156 = v
  blk_ext! [idx t]
theorem blk4 (t : Fin cfg0.N) : iblk m c 4 t = V m c main_v157 := by
  show ((cfg0.win 4).blk t).view.read (Elt Ideal) (V m c main_v157) = _
  generalize V m c main_v157 = v
  blk_ext! [idx t]
theorem blk5 (t : Fin cfg0.N) : iblk m c 5 t = V m c main_v158 := by
  show ((cfg0.win 5).blk t).view.read (Elt Ideal) (V m c main_v158) = _
  generalize V m c main_v158 = v
  blk_ext! [idx t]
theorem blk6 (t : Fin cfg0.N) : iblk m c 6 t = V m c main_v159 := by blk_ext! [iblk, idx t]
theorem blk7 (t : Fin cfg0.N) : iblk m c 7 t = V m c main_arg1 := by blk_ext! [iblk, idx t]
theorem blk8 (t : Fin cfg0.N) : iblk m c 8 t = V m c main_v160 := by blk_ext! [iblk, idx t]

/-- The one entry of a scalar made an array of one. -/
theorem only_shapeCast (v : FVec Ideal S_ .f32) : only (shapeCast S1 v shapeCasts_S_S1) = Answer.num v :=
  congrArg v (funext fun a => a.elim0)

/-- The six numbers the body reads. -/
theorem read0 (t : Fin cfg0.N) : only (iblk m c 0 t : FVec Ideal S1 .f32) = Answer.num (Answer.xScale (argH m c)) := by
  rw [blk0]
  exact (congrArg only (x_scale_array m c)).trans (only_shapeCast _)

theorem read1 (t : Fin cfg0.N) : only (iblk m c 1 t : FVec Ideal S1 .f32) = Answer.num (Answer.wScale (argH m c)) := by
  rw [blk1]
  exact (congrArg only (w_scale_array m c)).trans (only_shapeCast _)

theorem read2 (t : Fin cfg0.N) : only (iblk m c 2 t : FVec Ideal S1 .f32) = Answer.num (Answer.dyScale (argH m c)) := by
  rw [blk2]
  exact (congrArg only (dy_scale_array m c)).trans (only_shapeCast _)

theorem read3 (t : Fin cfg0.N) : only (iblk m c 3 t : FVec Ideal S1 .f32) = Answer.num (Answer.xInv (argH m c)) := by
  rw [blk3]
  exact (congrArg only (x_inv_array m c)).trans (only_shapeCast _)

theorem read4 (t : Fin cfg0.N) : only (iblk m c 4 t : FVec Ideal S1 .f32) = Answer.num (Answer.wInv (argH m c)) := by
  rw [blk4]
  exact (congrArg only (w_inv_array m c)).trans (only_shapeCast _)

theorem read5 (t : Fin cfg0.N) : only (iblk m c 5 t : FVec Ideal S1 .f32) = Answer.num (Answer.dyInv (argH m c)) := by
  rw [blk5]
  exact (congrArg only (dy_inv_array m c)).trans (only_shapeCast _)

/-- The first index of an array of one. -/
theorem first_eq (h : 0 < S1.numel) : Shape.Idx.first h = (ix1 0 : S1.Idx) :=
  funext fun a => Fin.ext (by
    match a with
    | ⟨0, ha⟩ => exact Nat.lt_one_iff.mp (Shape.Idx.first h ⟨0, ha⟩).isLt)

/-! ### What the body leaves -/

theorem x_codes_stored (t : Fin cfg0.N) : k0_pay4 (F := Ideal) (iblk m c 6 t) (only (iblk m c 3 t : FVec Ideal S1 .f32)) = Answer.xCodes (argX m c) (argH m c) := by
  rw [x_codes_value, read3, blk6, show V m c main_v159 = _ from x_rows m c]
  rfl

theorem x_codes_out (t : Fin cfg0.N) : (outsAt0 m c t).2.2.2.1 = Answer.xCodes (argX m c) (argH m c) := by
  rw [← x_codes_stored m c t]
  refine funext fun y => ?_
  unfold outsAt0
  frame_out
  simp only [read_unread_whole, first_eq]

theorem w_codes_stored (t : Fin cfg0.N) : k0_pay5 (F := Ideal) (iblk m c 7 t) (only (iblk m c 4 t : FVec Ideal S1 .f32)) = Answer.wCodes (argW m c) (argH m c) := by
  rw [w_codes_value, read4, blk7, show V m c main_arg1 = _ from w_array m c]
  rfl

theorem w_codes_out (t : Fin cfg0.N) : (outsAt0 m c t).2.2.2.2.1 = Answer.wCodes (argW m c) (argH m c) := by
  rw [← w_codes_stored m c t]
  refine funext fun y => ?_
  unfold outsAt0
  frame_out
  simp only [read_unread_whole, first_eq]

theorem dy_codes_stored (t : Fin cfg0.N) : k0_pay6 (F := Ideal) (iblk m c 8 t) (only (iblk m c 5 t : FVec Ideal S1 .f32)) = Answer.dyCodes (argDy m c) (argH m c) := by
  rw [dy_codes_value, read5, blk8, show V m c main_v160 = _ from dy_rows m c]
  rfl

theorem dy_codes_out (t : Fin cfg0.N) : (outsAt0 m c t).2.2.2.2.2 = Answer.dyCodes (argDy m c) (argH m c) := by
  rw [← dy_codes_stored m c t]
  refine funext fun y => ?_
  unfold outsAt0
  frame_out
  simp only [read_unread_whole, first_eq]

theorem y_stored (t : Fin cfg0.N) :
    k0_pay1 (F := Ideal) (k0_pay4 (F := Ideal) (iblk m c 6 t) (only (iblk m c 3 t : FVec Ideal S1 .f32)))
      (k0_pay5 (F := Ideal) (iblk m c 7 t) (only (iblk m c 4 t : FVec Ideal S1 .f32))) (constant S6144x7424 .f32 0x00000000#32)
      (only (iblk m c 0 t : FVec Ideal S1 .f32)) (only (iblk m c 1 t : FVec Ideal S1 .f32))
      = Answer.y (argX m c) (argW m c) (argH m c) := by
  rw [x_codes_stored, w_codes_stored, y_value, read0, read1]
  rfl

theorem y_out (t : Fin cfg0.N) : (outsAt0 m c t).1 = Answer.y (argX m c) (argW m c) (argH m c) := by
  rw [← y_stored m c t]
  refine funext fun y => ?_
  unfold outsAt0
  frame_out
  simp only [read_unread_whole, first_eq]

theorem dx_stored (t : Fin cfg0.N) :
    k0_pay2 (F := Ideal) (k0_pay5 (F := Ideal) (iblk m c 7 t) (only (iblk m c 4 t : FVec Ideal S1 .f32)))
      (k0_pay6 (F := Ideal) (iblk m c 8 t) (only (iblk m c 5 t : FVec Ideal S1 .f32)))
      (only (iblk m c 2 t : FVec Ideal S1 .f32)) (only (iblk m c 1 t : FVec Ideal S1 .f32))
      = Answer.dx (argW m c) (argDy m c) (argH m c) := by
  rw [w_codes_stored, dy_codes_stored, dx_value, read2, read1]
  rfl

theorem dx_out (t : Fin cfg0.N) : (outsAt0 m c t).2.1 = Answer.dx (argW m c) (argDy m c) (argH m c) := by
  rw [← dx_stored m c t]
  refine funext fun y => ?_
  unfold outsAt0
  frame_out
  simp only [read_unread_whole, first_eq]

theorem dw_stored (t : Fin cfg0.N) :
    k0_pay3 (F := Ideal) (k0_pay4 (F := Ideal) (iblk m c 6 t) (only (iblk m c 3 t : FVec Ideal S1 .f32)))
      (k0_pay6 (F := Ideal) (iblk m c 8 t) (only (iblk m c 5 t : FVec Ideal S1 .f32)))
      (only (iblk m c 0 t : FVec Ideal S1 .f32)) (only (iblk m c 2 t : FVec Ideal S1 .f32))
      = Answer.dw (argX m c) (argDy m c) (argH m c) := by
  rw [x_codes_stored, dy_codes_stored, dw_value, read0, read2]
  rfl

theorem dw_out (t : Fin cfg0.N) : (outsAt0 m c t).2.2.1 = Answer.dw (argX m c) (argDy m c) (argH m c) := by
  rw [← dw_stored m c t]
  refine funext fun y => ?_
  unfold outsAt0
  frame_out
  simp only [read_unread_whole, first_eq]

/-! ### The arrays after the launch -/

theorem y_array : (dats m 0 c).arrAt 9 cfg0.N = Answer.y (argX m c) (argW m c) (argH m c) := by
  refine (dats m 0 c).arrAt_eq_of_covers 9 _ (by decide +kernel) fun t _ y => ?_
  blk_simp
  rw [after0_9, y_out]
  refine congrArg (Answer.y (argX m c) (argW m c) (argH m c)) (funext fun a => Fin.ext ?_)
  match a with
  | ⟨0, _⟩ => blk_simp [idx t]
  | ⟨1, _⟩ => blk_simp [idx t]

theorem dx_array : (dats m 0 c).arrAt 10 cfg0.N = Answer.dx (argW m c) (argDy m c) (argH m c) := by
  refine (dats m 0 c).arrAt_eq_of_covers 10 _ (by decide +kernel) fun t _ y => ?_
  blk_simp
  rw [after0_10, dx_out]
  refine congrArg (Answer.dx (argW m c) (argDy m c) (argH m c)) (funext fun a => Fin.ext ?_)
  match a with
  | ⟨0, _⟩ => blk_simp [idx t]
  | ⟨1, _⟩ => blk_simp [idx t]

theorem dw_array : (dats m 0 c).arrAt 11 cfg0.N = Answer.dw (argX m c) (argDy m c) (argH m c) := by
  refine (dats m 0 c).arrAt_eq_of_covers 11 _ (by decide +kernel) fun t _ y => ?_
  blk_simp
  rw [after0_11, dw_out]
  refine congrArg (Answer.dw (argX m c) (argDy m c) (argH m c)) (funext fun a => Fin.ext ?_)
  match a with
  | ⟨0, _⟩ => blk_simp [idx t]
  | ⟨1, _⟩ => blk_simp [idx t]

theorem x_codes_array : (dats m 0 c).arrAt 12 cfg0.N = Answer.xCodes (argX m c) (argH m c) := by
  refine (dats m 0 c).arrAt_eq_of_covers 12 _ (by decide +kernel) fun t _ y => ?_
  blk_simp
  rw [after0_12, x_codes_out]
  refine congrArg (Answer.xCodes (argX m c) (argH m c)) (funext fun a => Fin.ext ?_)
  match a with
  | ⟨0, _⟩ => blk_simp [idx t]
  | ⟨1, _⟩ => blk_simp [idx t]

theorem w_codes_array : (dats m 0 c).arrAt 13 cfg0.N = Answer.wCodes (argW m c) (argH m c) := by
  refine (dats m 0 c).arrAt_eq_of_covers 13 _ (by decide +kernel) fun t _ y => ?_
  blk_simp
  rw [after0_13, w_codes_out]
  refine congrArg (Answer.wCodes (argW m c) (argH m c)) (funext fun a => Fin.ext ?_)
  match a with
  | ⟨0, _⟩ => blk_simp [idx t]
  | ⟨1, _⟩ => blk_simp [idx t]

theorem dy_codes_array : (dats m 0 c).arrAt 14 cfg0.N = Answer.dyCodes (argDy m c) (argH m c) := by
  refine (dats m 0 c).arrAt_eq_of_covers 14 _ (by decide +kernel) fun t _ y => ?_
  blk_simp
  rw [after0_14, dy_codes_out]
  refine congrArg (Answer.dyCodes (argDy m c) (argH m c)) (funext fun a => Fin.ext ?_)
  match a with
  | ⟨0, _⟩ => blk_simp [idx t]
  | ⟨1, _⟩ => blk_simp [idx t]

end Cert.Proof.ReferenceValue
end
-- ==== Proof.ReferenceRun.lean ====
/-
  The reference's ten results: what each result array holds when the last host operation has run, and that every
  execution ends so.
-/
module

public import proofs.«01_k».proof.Proof.ReferenceValue

@[expose] public section

noncomputable section

open Idealize.ShloMosaic Idealize.ShloMosaic.TcCoe Idealize.SL.Sem

namespace Cert.Proof.ReferenceRun

open Cert.ReferenceIdeal Cert.ReferenceIdeal.Gen Cert.Proof.ReferenceScales

variable (m : (ℓ : Loc nD τ sig) → Buf (Elt Ideal) ℓ) (ρ : Dev nD → PrngReg) (c : Dev nD)

/-- The buffers as the launch leaves them. -/
def exit : Valuation τ sig (Elt Ideal) :=
  Pipeline.withArrays spec0 c (V0 m c) fun w => (dats m 0 c).arrAt w cfg0.N

/-- The buffers after the last host operation. -/
abbrev last : Valuation τ sig (Elt Ideal) := StableHlo.after (List.flatten [hostOps1, hostOps1_1, hostOps1_2]) (exit m c)

theorem exit_arr (w : Fin cfg0.W) : exit m c (Proc.devRef .tc (Pipeline.arrRef spec0 w)) = (dats m 0 c).arrAt w cfg0.N := by
  unfold exit
  exact Pipeline.withArrays_arr spec0 launch0.win.arr_inj c _ _ w

theorem exit_of_ne (b : Ref sig .tc) (hb : ∀ w, Pipeline.arrRef spec0 w ≠ b) :
    exit m c (Proc.devRef .tc b) = V0 m c (Proc.devRef .tc b) := by
  unfold exit
  exact Pipeline.withArrays_of_ne spec0 c _ _ b hb

/-! ### The results -/

theorem y : last m c (Proc.devRef .tc main_v181)
    = shapeCast S3x2048x7424 (Answer.y (argX m c) (argW m c) (argH m c)) shapeCasts_S6144x7424_S3x2048x7424 := by
  after_reads_simp
  rw [show exit m c (Proc.devRef .tc main_v161_0) = _ from (exit_arr m c 9).trans (ReferenceValue.y_array m c)]
  rfl

theorem dx : last m c (Proc.devRef .tc main_v182)
    = shapeCast S3x2048x15488 (Answer.dx (argW m c) (argDy m c) (argH m c)) shapeCasts_S6144x15488_S3x2048x15488 := by
  after_reads_simp
  rw [show exit m c (Proc.devRef .tc main_v161_1) = _ from (exit_arr m c 10).trans (ReferenceValue.dx_array m c)]
  rfl

theorem x_codes : last m c (Proc.devRef .tc main_v183)
    = shapeCast S3x2048x15488 (Answer.xCodes (argX m c) (argH m c)) shapeCasts_S6144x15488_S3x2048x15488 := by
  after_reads_simp
  rw [show exit m c (Proc.devRef .tc main_v161_3) = _ from (exit_arr m c 12).trans (ReferenceValue.x_codes_array m c)]
  rfl

theorem x_scale : last m c (Proc.devRef .tc main_v43) = Answer.xScale (argH m c) := by
  refine .trans ?_ ((exit_of_ne m c main_v43 (by decide)).trans (ReferenceScales.x_scale m c))
  after_reads_simp

theorem w_scale : last m c (Proc.devRef .tc main_v94) = Answer.wScale (argH m c) := by
  refine .trans ?_ ((exit_of_ne m c main_v94 (by decide)).trans (ReferenceScales.w_scale m c))
  after_reads_simp

theorem dy_codes : last m c (Proc.devRef .tc main_v184)
    = shapeCast S3x2048x7424 (Answer.dyCodes (argDy m c) (argH m c)) shapeCasts_S6144x7424_S3x2048x7424 := by
  after_reads_simp
  rw [show exit m c (Proc.devRef .tc main_v161_5) = _ from (exit_arr m c 14).trans (ReferenceValue.dy_codes_array m c)]
  rfl

theorem dy_scale : last m c (Proc.devRef .tc main_v145) = Answer.dyScale (argH m c) := by
  refine .trans ?_ ((exit_of_ne m c main_v145 (by decide)).trans (ReferenceScales.dy_scale m c))
  after_reads_simp

/-! ### The new history -/

theorem arg_x : exit m c (Proc.devRef .tc main_arg0) = argX m c :=
  (exit_of_ne m c main_arg0 (by decide)).trans (V_main_arg0 m c)

theorem arg_w : exit m c (Proc.devRef .tc main_arg1) = argW m c :=
  (exit_arr m c 7).trans (((dats m 0 c).arrAt_in 7 rfl _).trans ((A_eq m c 7).trans (V_main_arg1 m c)))

theorem arg_dy : exit m c (Proc.devRef .tc main_arg2) = argDy m c :=
  (exit_of_ne m c main_arg2 (by decide)).trans (V_main_arg2 m c)

theorem arg_h : exit m c (Proc.devRef .tc main_arg3) = argH m c :=
  (exit_of_ne m c main_arg3 (by decide)).trans (V_main_arg3 m c)

theorem arg_n : exit m c (Proc.devRef .tc main_arg4) = argN m c :=
  (exit_of_ne m c main_arg4 (by decide)).trans (V_main_arg4 m c)

/-- The largest magnitude of a whole array, as the host reduces it. -/
theorem x_peak : Host.reduce FloatOps.maximumf (Host.absf (extf .f32 (argX m c) bitsLt_bf16_f32))
    (constant S_ .f32 0xFF800000#32) reducesTo_S3x2048x15488_S_d0_1_2 h_S_ = Answer.peak (argX m c) :=
  funext fun j => reduce_magnitudes (argX m c) _ _ rfl j

theorem w_peak : Host.reduce FloatOps.maximumf (Host.absf (extf .f32 (argW m c) bitsLt_bf16_f32))
    (constant S_ .f32 0xFF800000#32) reducesTo_S15488x7424_S_d0_1 h_S_ = Answer.peak (argW m c) :=
  funext fun j => reduce_magnitudes (argW m c) _ _ rfl j

theorem dy_peak : Host.reduce FloatOps.maximumf (Host.absf (extf .f32 (argDy m c) bitsLt_bf16_f32))
    (constant S_ .f32 0xFF800000#32) reducesTo_S3x2048x7424_S_d0_1_2 h_S_ = Answer.peak (argDy m c) :=
  funext fun j => reduce_magnitudes (argDy m c) _ _ rfl j

/-- The host operations after the launch, up to the three reductions as arrays of one. -/
abbrev tail : List (HloOp τ sig (Elt Ideal)) := List.flatten [hostOps1, hostOps1_1, hostOps1_2]

theorem x_one : StableHlo.upto tail (exit m c) 15 (Proc.devRef .tc main_v171) = Answer.one (Answer.peak (argX m c)) := by
  rw [← x_peak m c]
  after_reads_simp
  rw [arg_x m c]
  rfl

theorem w_one : StableHlo.upto tail (exit m c) 15 (Proc.devRef .tc main_v172) = Answer.one (Answer.peak (argW m c)) := by
  rw [← w_peak m c]
  after_reads_simp
  rw [arg_w m c]
  rfl

theorem dy_one : StableHlo.upto tail (exit m c) 15 (Proc.devRef .tc main_v173) = Answer.one (Answer.peak (argDy m c)) := by
  rw [← dy_peak m c]
  after_reads_simp
  rw [arg_dy m c]
  rfl

theorem newHistory : last m c (Proc.devRef .tc main_v180)
    = Answer.newHistory (argX m c) (argW m c) (argDy m c) (argH m c) (argN m c) := by
  after_reads_simp
  simp -implicitDefEqProofs only [StableHlo.TRef.toBuf, StableHlo.TRef.ofBuf, cast_cast, cast_eq]
  clean_types
  rw [arg_h m c, arg_n m c]
  unfold Answer.newHistory Answer.history
  rw [← x_one m c, ← w_one m c, ← dy_one m c]
  rfl

/-! ### The run -/

/-- Every execution of the reference ends with its ten result arrays at the answer and its arguments as launched. -/
theorem run : θ_run defs (onTc (τ := τ) (main (F := Ideal))) ⟨m, fun _ => 0, ρ⟩ (fun r => ∀ c : Dev nD,
      r.2.mem ((c.tc : Thread nD τ).loc main_v181) = shapeCast S3x2048x7424 (Answer.y (argX m c) (argW m c) (argH m c)) shapeCasts_S6144x7424_S3x2048x7424
      ∧ r.2.mem ((c.tc : Thread nD τ).loc main_v182) = shapeCast S3x2048x15488 (Answer.dx (argW m c) (argDy m c) (argH m c)) shapeCasts_S6144x15488_S3x2048x15488
      ∧ r.2.mem ((c.tc : Thread nD τ).loc main_v161_2) = Answer.dw (argX m c) (argDy m c) (argH m c)
      ∧ r.2.mem ((c.tc : Thread nD τ).loc main_v183) = shapeCast S3x2048x15488 (Answer.xCodes (argX m c) (argH m c)) shapeCasts_S6144x15488_S3x2048x15488
      ∧ r.2.mem ((c.tc : Thread nD τ).loc main_v43) = Answer.xScale (argH m c)
      ∧ r.2.mem ((c.tc : Thread nD τ).loc main_v161_4) = Answer.wCodes (argW m c) (argH m c)
      ∧ r.2.mem ((c.tc : Thread nD τ).loc main_v94) = Answer.wScale (argH m c)
      ∧ r.2.mem ((c.tc : Thread nD τ).loc main_v184) = shapeCast S3x2048x7424 (Answer.dyCodes (argDy m c) (argH m c)) shapeCasts_S6144x7424_S3x2048x7424
      ∧ r.2.mem ((c.tc : Thread nD τ).loc main_v145) = Answer.dyScale (argH m c)
      ∧ r.2.mem ((c.tc : Thread nD τ).loc main_v180) = Answer.newHistory (argX m c) (argW m c) (argDy m c) (argH m c) (argN m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨((h c).2 main_v181 (Pipeline.mem_restRefs_of main_v181 (by decide) (by decide))).trans (y m c),
       ((h c).2 main_v182 (Pipeline.mem_restRefs_of main_v182 (by decide) (by decide))).trans (dx m c),
       ((h c).1 11).trans (ReferenceValue.dw_array m c),
       ((h c).2 main_v183 (Pipeline.mem_restRefs_of main_v183 (by decide) (by decide))).trans (x_codes m c),
       ((h c).2 main_v43 (Pipeline.mem_restRefs_of main_v43 (by decide) (by decide))).trans (x_scale m c),
       ((h c).1 13).trans (ReferenceValue.w_codes_array m c),
       ((h c).2 main_v94 (Pipeline.mem_restRefs_of main_v94 (by decide) (by decide))).trans (w_scale m c),
       ((h c).2 main_v184 (Pipeline.mem_restRefs_of main_v184 (by decide) (by decide))).trans (dy_codes m c),
       ((h c).2 main_v145 (Pipeline.mem_restRefs_of main_v145 (by decide) (by decide))).trans (dy_scale m c),
       ((h c).2 main_v180 (Pipeline.mem_restRefs_of main_v180 (by decide) (by decide))).trans (newHistory m c),
       ((h c).2 main_arg0 (Pipeline.mem_restRefs_of main_arg0 (by decide) (by decide))).trans (W_main_arg0 m (dats m) c),
       ((h c).1 7).trans (((dats m 0 c).arrAt_in 7 rfl _).trans ((A_eq m c 7).trans (V_main_arg1 m c))),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩) (run_main m ρ)

end Cert.Proof.ReferenceRun
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.ReferenceRun
public import Idealize.ShloMosaic.Adequacy
public import Idealize.ShloMosaic.Init

@[expose] public section

noncomputable section

namespace Cert.Proof

open Idealize.ShloMosaic Idealize.ShloMosaic.TcCoe Idealize.SL.Sem

/-- Over the ideal numbers the kernel and the reference leave the same ten results: each run ends at the answer of
    its own arguments, and the two runs' arguments are one. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, _, _, _, _, _, _, _, _, KernelRun.run m g, ?_⟩
  refine (θ_run _ _ _).mono (fun r h c => ?_) (ReferenceRun.run m' g')
  obtain ⟨hx, hw, hdy, hh, hn⟩ := hargs c
  obtain ⟨e0, e1, e2, e3, e4, e5, e6, e7, e8, e9, rest⟩ := h c
  have hx : ReferenceScales.argX m' c = KernelScales.argX m c := hx
  have hw : ReferenceScales.argW m' c = KernelScales.argW m c := hw
  have hdy : ReferenceScales.argDy m' c = KernelScales.argDy m c := hdy
  have hh : ReferenceScales.argH m' c = KernelScales.argH m c := hh
  have hn : ReferenceScales.argN m' c = KernelScales.argN m c := hn
  rw [hx, hw, hh] at e0
  rw [hw, hdy, hh] at e1
  rw [hx, hdy, hh] at e2
  rw [hx, hh] at e3
  rw [hh] at e4
  rw [hw, hh] at e5
  rw [hh] at e6
  rw [hdy, hh] at e7
  rw [hh] at e8
  rw [hx, hw, hdy, hh, hn] at e9
  exact ⟨e0, e1, e2, e3, e4, e5, e6, e7, e8, e9, rest⟩

/-- The claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
